-- ==== Defs.lean ====
def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel1 (m : (ℓ : Loc Cert.Kernel1.nD Cert.Kernel1.τ Cert.Kernel1.sig) → Buf (Elt Bits) ℓ) : Prop :=
  True

def Pre_Kernel1Ideal (m : (ℓ : Loc Cert.Kernel1Ideal.nD Cert.Kernel1Ideal.τ Cert.Kernel1Ideal.sig) → Buf (Elt Ideal) ℓ) : Prop :=
  True

def Pre_Reference1Ideal (m : (ℓ : Loc Cert.Reference1Ideal.nD Cert.Reference1Ideal.τ Cert.Reference1Ideal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel1 [hKernel1 : Cert.Kernel1.Facts] : Prop :=
  ∀ (m : (ℓ : Loc Cert.Kernel1.nD Cert.Kernel1.τ Cert.Kernel1.sig) → Buf (Elt Bits) ℓ) (g : Dev Cert.Kernel1.nD → PrngReg), Pre_Kernel1 m →
    θ_run (Cert.Kernel1.defs (F := Bits)) (onTc (τ := Cert.Kernel1.τ) (Cert.Kernel1.main (F := Bits))) ⟨m, fun _ => 0, g⟩ (fun r => (∀ c : Dev Cert.Kernel1.nD,
      r.2.mem ((c.tc : Thread Cert.Kernel1.nD Cert.Kernel1.τ).loc Cert.Kernel1.main_arg0) = m ((c.tc : Thread Cert.Kernel1.nD Cert.Kernel1.τ).loc Cert.Kernel1.main_arg0)
      ∧ r.2.mem ((c.tc : Thread Cert.Kernel1.nD Cert.Kernel1.τ).loc Cert.Kernel1.main_arg1) = m ((c.tc : Thread Cert.Kernel1.nD Cert.Kernel1.τ).loc Cert.Kernel1.main_arg1)
      ∧ r.2.mem ((c.tc : Thread Cert.Kernel1.nD Cert.Kernel1.τ).loc Cert.Kernel1.main_arg2) = m ((c.tc : Thread Cert.Kernel1.nD Cert.Kernel1.τ).loc Cert.Kernel1.main_arg2))
      ∧ r.2.sem = fun _ => 0)

def quiescent_Kernel1Ideal [hKernel1Ideal : Cert.Kernel1Ideal.Facts] : Prop :=
  ∀ (m : (ℓ : Loc Cert.Kernel1Ideal.nD Cert.Kernel1Ideal.τ Cert.Kernel1Ideal.sig) → Buf (Elt Ideal) ℓ) (g : Dev Cert.Kernel1Ideal.nD → PrngReg), Pre_Kernel1Ideal m →
    θ_run (Cert.Kernel1Ideal.defs (F := Ideal)) (onTc (τ := Cert.Kernel1Ideal.τ) (Cert.Kernel1Ideal.main (F := Ideal))) ⟨m, fun _ => 0, g⟩ (fun r => (∀ c : Dev Cert.Kernel1Ideal.nD,
      r.2.mem ((c.tc : Thread Cert.Kernel1Ideal.nD Cert.Kernel1Ideal.τ).loc Cert.Kernel1Ideal.main_arg0) = m ((c.tc : Thread Cert.Kernel1Ideal.nD Cert.Kernel1Ideal.τ).loc Cert.Kernel1Ideal.main_arg0)
      ∧ r.2.mem ((c.tc : Thread Cert.Kernel1Ideal.nD Cert.Kernel1Ideal.τ).loc Cert.Kernel1Ideal.main_arg1) = m ((c.tc : Thread Cert.Kernel1Ideal.nD Cert.Kernel1Ideal.τ).loc Cert.Kernel1Ideal.main_arg1)
      ∧ r.2.mem ((c.tc : Thread Cert.Kernel1Ideal.nD Cert.Kernel1Ideal.τ).loc Cert.Kernel1Ideal.main_arg2) = m ((c.tc : Thread Cert.Kernel1Ideal.nD Cert.Kernel1Ideal.τ).loc Cert.Kernel1Ideal.main_arg2))
      ∧ r.2.sem = fun _ => 0)

def quiescent_Reference1Ideal [hReference1Ideal : Cert.Reference1Ideal.Facts] : Prop :=
  ∀ (m : (ℓ : Loc Cert.Reference1Ideal.nD Cert.Reference1Ideal.τ Cert.Reference1Ideal.sig) → Buf (Elt Ideal) ℓ) (g : Dev Cert.Reference1Ideal.nD → PrngReg), Pre_Reference1Ideal m →
    θ_run (Cert.Reference1Ideal.defs (F := Ideal)) (onTc (τ := Cert.Reference1Ideal.τ) (Cert.Reference1Ideal.main (F := Ideal))) ⟨m, fun _ => 0, g⟩ (fun r => (∀ c : Dev Cert.Reference1Ideal.nD,
      r.2.mem ((c.tc : Thread Cert.Reference1Ideal.nD Cert.Reference1Ideal.τ).loc Cert.Reference1Ideal.main_arg0) = m ((c.tc : Thread Cert.Reference1Ideal.nD Cert.Reference1Ideal.τ).loc Cert.Reference1Ideal.main_arg0)
      ∧ r.2.mem ((c.tc : Thread Cert.Reference1Ideal.nD Cert.Reference1Ideal.τ).loc Cert.Reference1Ideal.main_arg1) = m ((c.tc : Thread Cert.Reference1Ideal.nD Cert.Reference1Ideal.τ).loc Cert.Reference1Ideal.main_arg1)
      ∧ r.2.mem ((c.tc : Thread Cert.Reference1Ideal.nD Cert.Reference1Ideal.τ).loc Cert.Reference1Ideal.main_arg2) = m ((c.tc : Thread Cert.Reference1Ideal.nD Cert.Reference1Ideal.τ).loc Cert.Reference1Ideal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def preserves_Kernel16_Kernel16Ideal : Prop :=
  IdealRules.named_const.Statement Cert.Kernel16Ideal.κ "mask" .f32 0xF149F2CA#32 ⊥

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)) →
    ∃ (v0 : (c : Dev Cert.Kernel16Ideal.nD) → Buf (Elt Ideal) ((c.tc : Thread Cert.Kernel16Ideal.nD Cert.Kernel16Ideal.τ).loc Cert.Kernel16Ideal.main_v6_0)) (v1 : (c : Dev Cert.Kernel16Ideal.nD) → Buf (Elt Ideal) ((c.tc : Thread Cert.Kernel16Ideal.nD Cert.Kernel16Ideal.τ).loc Cert.Kernel16Ideal.main_v6_1)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v6_0) = v0 c
          ∧ r.2.mem ((c.tc : Thread Cert.Kernel16Ideal.nD Cert.Kernel16Ideal.τ).loc Cert.Kernel16Ideal.main_v6_1) = v1 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v83) = v0 c
          ∧ r.2.mem ((c.tc : Thread Cert.Reference16Ideal.nD Cert.Reference16Ideal.τ).loc Cert.Reference16Ideal.main_v84) = v1 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2))

def preserves_Kernel4_Kernel4Ideal : Prop :=
  IdealRules.named_const.Statement Cert.Kernel4Ideal.κ "mask" .f32 0xF149F2CA#32 ⊥

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v6_0)) (v1 : (c : Dev Cert.Kernel4Ideal.nD) → Buf (Elt Ideal) ((c.tc : Thread Cert.Kernel4Ideal.nD Cert.Kernel4Ideal.τ).loc Cert.Kernel4Ideal.main_v6_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v6_0) = v0 c
          ∧ r.2.mem ((c.tc : Thread Cert.Kernel4Ideal.nD Cert.Kernel4Ideal.τ).loc Cert.Kernel4Ideal.main_v6_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v83) = v0 c
          ∧ r.2.mem ((c.tc : Thread Cert.Reference4Ideal.nD Cert.Reference4Ideal.τ).loc Cert.Reference4Ideal.main_v84) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel1_Kernel1Ideal : Prop :=
  IdealRules.named_const.Statement Cert.Kernel1Ideal.κ "mask" .f32 0xF149F2CA#32 ⊥

def algebraic_Kernel1Ideal_Reference1Ideal [hKernel1Ideal : Cert.Kernel1Ideal.Facts] [hReference1Ideal : Cert.Reference1Ideal.Facts] : Prop :=
  ∀ (m : (ℓ : Loc Cert.Kernel1Ideal.nD Cert.Kernel1Ideal.τ Cert.Kernel1Ideal.sig) → Buf (Elt Ideal) ℓ) (g : Dev Cert.Kernel1Ideal.nD → PrngReg)
    (m' : (ℓ : Loc Cert.Reference1Ideal.nD Cert.Reference1Ideal.τ Cert.Reference1Ideal.sig) → Buf (Elt Ideal) ℓ) (g' : Dev Cert.Reference1Ideal.nD → PrngReg), Pre_Kernel1Ideal m →
    (∀ c : Dev Cert.Kernel1Ideal.nD,
      m' ((c.tc : Thread Cert.Reference1Ideal.nD Cert.Reference1Ideal.τ).loc Cert.Reference1Ideal.main_arg0) = m ((c.tc : Thread Cert.Kernel1Ideal.nD Cert.Kernel1Ideal.τ).loc Cert.Kernel1Ideal.main_arg0)
      ∧ m' ((c.tc : Thread Cert.Reference1Ideal.nD Cert.Reference1Ideal.τ).loc Cert.Reference1Ideal.main_arg1) = m ((c.tc : Thread Cert.Kernel1Ideal.nD Cert.Kernel1Ideal.τ).loc Cert.Kernel1Ideal.main_arg1)
      ∧ m' ((c.tc : Thread Cert.Reference1Ideal.nD Cert.Reference1Ideal.τ).loc Cert.Reference1Ideal.main_arg2) = m ((c.tc : Thread Cert.Kernel1Ideal.nD Cert.Kernel1Ideal.τ).loc Cert.Kernel1Ideal.main_arg2)) →
    ∃ (v0 : (c : Dev Cert.Kernel1Ideal.nD) → Buf (Elt Ideal) ((c.tc : Thread Cert.Kernel1Ideal.nD Cert.Kernel1Ideal.τ).loc Cert.Kernel1Ideal.main_v6_0)) (v1 : (c : Dev Cert.Kernel1Ideal.nD) → Buf (Elt Ideal) ((c.tc : Thread Cert.Kernel1Ideal.nD Cert.Kernel1Ideal.τ).loc Cert.Kernel1Ideal.main_v6_1)),
      θ_run (Cert.Kernel1Ideal.defs (F := Ideal)) (onTc (τ := Cert.Kernel1Ideal.τ) (Cert.Kernel1Ideal.main (F := Ideal))) ⟨m, fun _ => 0, g⟩ (fun r => ∀ c : Dev Cert.Kernel1Ideal.nD,
          r.2.mem ((c.tc : Thread Cert.Kernel1Ideal.nD Cert.Kernel1Ideal.τ).loc Cert.Kernel1Ideal.main_v6_0) = v0 c
          ∧ r.2.mem ((c.tc : Thread Cert.Kernel1Ideal.nD Cert.Kernel1Ideal.τ).loc Cert.Kernel1Ideal.main_v6_1) = v1 c
          ∧ r.2.mem ((c.tc : Thread Cert.Kernel1Ideal.nD Cert.Kernel1Ideal.τ).loc Cert.Kernel1Ideal.main_arg0) = m ((c.tc : Thread Cert.Kernel1Ideal.nD Cert.Kernel1Ideal.τ).loc Cert.Kernel1Ideal.main_arg0)
          ∧ r.2.mem ((c.tc : Thread Cert.Kernel1Ideal.nD Cert.Kernel1Ideal.τ).loc Cert.Kernel1Ideal.main_arg1) = m ((c.tc : Thread Cert.Kernel1Ideal.nD Cert.Kernel1Ideal.τ).loc Cert.Kernel1Ideal.main_arg1)
          ∧ r.2.mem ((c.tc : Thread Cert.Kernel1Ideal.nD Cert.Kernel1Ideal.τ).loc Cert.Kernel1Ideal.main_arg2) = m ((c.tc : Thread Cert.Kernel1Ideal.nD Cert.Kernel1Ideal.τ).loc Cert.Kernel1Ideal.main_arg2))
      ∧ θ_run (Cert.Reference1Ideal.defs (F := Ideal)) (onTc (τ := Cert.Reference1Ideal.τ) (Cert.Reference1Ideal.main (F := Ideal))) ⟨m', fun _ => 0, g'⟩ (fun r => ∀ c : Dev Cert.Reference1Ideal.nD,
          r.2.mem ((c.tc : Thread Cert.Reference1Ideal.nD Cert.Reference1Ideal.τ).loc Cert.Reference1Ideal.main_v83) = v0 c
          ∧ r.2.mem ((c.tc : Thread Cert.Reference1Ideal.nD Cert.Reference1Ideal.τ).loc Cert.Reference1Ideal.main_v81) = v1 c
          ∧ r.2.mem ((c.tc : Thread Cert.Reference1Ideal.nD Cert.Reference1Ideal.τ).loc Cert.Reference1Ideal.main_arg0) = m' ((c.tc : Thread Cert.Reference1Ideal.nD Cert.Reference1Ideal.τ).loc Cert.Reference1Ideal.main_arg0)
          ∧ r.2.mem ((c.tc : Thread Cert.Reference1Ideal.nD Cert.Reference1Ideal.τ).loc Cert.Reference1Ideal.main_arg1) = m' ((c.tc : Thread Cert.Reference1Ideal.nD Cert.Reference1Ideal.τ).loc Cert.Reference1Ideal.main_arg1)
          ∧ r.2.mem ((c.tc : Thread Cert.Reference1Ideal.nD Cert.Reference1Ideal.τ).loc Cert.Reference1Ideal.main_arg2) = m' ((c.tc : Thread Cert.Reference1Ideal.nD Cert.Reference1Ideal.τ).loc Cert.Reference1Ideal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v14)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v14) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v26) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v5_0)) (v1 : (c : Dev Cert.Kernel3Ideal.nD) → Buf (Elt Ideal) ((c.tc : Thread Cert.Kernel3Ideal.nD Cert.Kernel3Ideal.τ).loc Cert.Kernel3Ideal.main_v5_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5_0) = v0 c
          ∧ r.2.mem ((c.tc : Thread Cert.Kernel3Ideal.nD Cert.Kernel3Ideal.τ).loc Cert.Kernel3Ideal.main_v5_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v15) = v0 c
          ∧ r.2.mem ((c.tc : Thread Cert.Reference3Ideal.nD Cert.Reference3Ideal.τ).loc Cert.Reference3Ideal.main_v18) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def Claim : Prop :=
  ∃ (hKernel16 : Cert.Kernel16.Facts) (hKernel16Ideal : Cert.Kernel16Ideal.Facts) (hReference16Ideal : Cert.Reference16Ideal.Facts) (hKernel4 : Cert.Kernel4.Facts) (hKernel4Ideal : Cert.Kernel4Ideal.Facts) (hReference4Ideal : Cert.Reference4Ideal.Facts) (hKernel1 : Cert.Kernel1.Facts) (hKernel1Ideal : Cert.Kernel1Ideal.Facts) (hReference1Ideal : Cert.Reference1Ideal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts),
    quiescent_Kernel16 (hKernel16 := hKernel16)
    ∧ quiescent_Kernel16Ideal (hKernel16Ideal := hKernel16Ideal)
    ∧ quiescent_Reference16Ideal (hReference16Ideal := hReference16Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel1 (hKernel1 := hKernel1)
    ∧ quiescent_Kernel1Ideal (hKernel1Ideal := hKernel1Ideal)
    ∧ quiescent_Reference1Ideal (hReference1Ideal := hReference1Ideal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel16_Kernel16Ideal
    ∧ algebraic_Kernel16Ideal_Reference16Ideal (hKernel16Ideal := hKernel16Ideal) (hReference16Ideal := hReference16Ideal)
    ∧ preserves_Kernel4_Kernel4Ideal
    ∧ algebraic_Kernel4Ideal_Reference4Ideal (hKernel4Ideal := hKernel4Ideal) (hReference4Ideal := hReference4Ideal)
    ∧ preserves_Kernel1_Kernel1Ideal
    ∧ algebraic_Kernel1Ideal_Reference1Ideal (hKernel1Ideal := hKernel1Ideal) (hReference1Ideal := hReference1Ideal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Kernel16.lean ====
abbrev S2x16384x12x128 : Shape := ⟨4, ![2, 16384, 12, 128]⟩
abbrev S2x1024x24576 : Shape := ⟨3, ![2, 1024, 24576]⟩
abbrev S2x1024x2048 : Shape := ⟨3, ![2, 1024, 2048]⟩
abbrev S1x512x1536 : Shape := ⟨3, ![1, 512, 1536]⟩
abbrev S1x64x1536 : Shape := ⟨3, ![1, 64, 1536]⟩
abbrev S1x512x128 : Shape := ⟨3, ![1, 512, 128]⟩
abbrev S128x256 : Shape := ⟨2, ![128, 256]⟩
abbrev S128x128 : Shape := ⟨2, ![128, 128]⟩
abbrev S1x64x128 : Shape := ⟨3, ![1, 64, 128]⟩
abbrev S64x128 : Shape := ⟨2, ![64, 128]⟩
abbrev S512x128 : Shape := ⟨2, ![512, 128]⟩
abbrev S640x128 : Shape := ⟨2, ![640, 128]⟩
abbrev S1x128x128 : Shape := ⟨3, ![1, 128, 128]⟩
abbrev S256x128 : Shape := ⟨2, ![256, 128]⟩
abbrev S128 : Shape := ⟨1, ![128]⟩
abbrev S128x1 : Shape := ⟨2, ![128, 1]⟩

abbrev nBuf : Space → Nat
  | .hbm => 11
  | .vmem => 18
  | .smem => 0
  | _ => 0

abbrev bufTy : (tb : Table) → Fin (tcTables nBuf tb) → BufTy
  | .hbm, ⟨0, _⟩ => ⟨S2x16384x12x128, .f32⟩
  | .hbm, ⟨1, _⟩ => ⟨S2x16384x12x128, .f32⟩
  | .hbm, ⟨2, _⟩ => ⟨S2x16384x12x128, .f32⟩
  | .hbm, ⟨3, _⟩ => ⟨S2x16384x12x128, .bf16⟩
  | .hbm, ⟨4, _⟩ => ⟨S2x1024x24576, .bf16⟩
  | .hbm, ⟨5, _⟩ => ⟨S2x16384x12x128, .bf16⟩
  | .hbm, ⟨6, _⟩ => ⟨S2x1024x24576, .bf16⟩
  | .hbm, ⟨7, _⟩ => ⟨S2x16384x12x128, .bf16⟩
  | .hbm, ⟨8, _⟩ => ⟨S2x1024x24576, .bf16⟩
  | .hbm, ⟨9, _⟩ => ⟨S2x1024x24576, .bf16⟩
  | .hbm, ⟨10, _⟩ => ⟨S2x1024x2048, .f32⟩
  | .local _ .vmem, ⟨0, _⟩ => ⟨S1x512x1536, .bf16⟩
  | .local _ .vmem, ⟨1, _⟩ => ⟨S1x512x1536, .bf16⟩
  | .local _ .vmem, ⟨2, _⟩ => ⟨S1x512x1536, .bf16⟩
  | .local _ .vmem, ⟨3, _⟩ => ⟨S1x512x1536, .bf16⟩
  | .local _ .vmem, ⟨4, _⟩ => ⟨S1x64x1536, .bf16⟩
  | .local _ .vmem, ⟨5, _⟩ => ⟨S1x64x1536, .bf16⟩
  | .local _ .vmem, ⟨6, _⟩ => ⟨S1x64x1536, .bf16⟩
  | .local _ .vmem, ⟨7, _⟩ => ⟨S1x64x1536, .bf16⟩
  | .local _ .vmem, ⟨8, _⟩ => ⟨S1x512x1536, .bf16⟩
  | .local _ .vmem, ⟨9, _⟩ => ⟨S1x512x1536, .bf16⟩
  | .local _ .vmem, ⟨10, _⟩ => ⟨S1x64x1536, .bf16⟩
  | .local _ .vmem, ⟨11, _⟩ => ⟨S1x64x1536, .bf16⟩
  | .local _ .vmem, ⟨12, _⟩ => ⟨S1x64x1536, .bf16⟩
  | .local _ .vmem, ⟨13, _⟩ => ⟨S1x64x1536, .bf16⟩
  | .local _ .vmem, ⟨14, _⟩ => ⟨S1x512x1536, .bf16⟩
  | .local _ .vmem, ⟨15, _⟩ => ⟨S1x512x1536, .bf16⟩
  | .local _ .vmem, ⟨16, _⟩ => ⟨S1x512x128, .f32⟩
  | .local _ .vmem, ⟨17, _⟩ => ⟨S1x512x128, .f32⟩
  | _, _ => ⟨S2x16384x12x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6_0 : Ref sig .tc := ⟨.hbm, 9, rfl⟩
abbrev main_v6_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![2, 16, 2], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg2 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![arg0.toNat, v2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c8_i32 : BitVec 32 := 8#32
  let v1 : BitVec 32 := Scalar.muli v0 c8_i32
  let c15_i32 : BitVec 32 := 15#32
  let v2 : BitVec 32 := Scalar.minsi v1 c15_i32
  let c0_i32 : BitVec 32 := 0#32
  ![arg0.toNat, v2.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg2 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![arg0.toNat, v2.toNat, arg1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c8_i32 : BitVec 32 := 8#32
  let v1 : BitVec 32 := Scalar.muli v0 c8_i32
  let c15_i32 : BitVec 32 := 15#32
  let v2 : BitVec 32 := Scalar.minsi v1 c15_i32
  let c0_i32 : BitVec 32 := 0#32
  ![arg0.toNat, v2.toNat, arg1.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x512x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x64x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x64x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x512x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x64x1536 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x64x1536 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x512x1536 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== Kernel16Ideal.lean ====
variable {F : FTy → Type} [FloatOps F] [Named F]
def κ : String → Option EReal := fun
  | "mask" => some ⊥
  | _ => none
-- ==== Reference16Ideal.lean ====
abbrev S2x16384x12x128 : Shape := ⟨4, ![2, 16384, 12, 128]⟩
abbrev S2x1024x16x12x128 : Shape := ⟨5, ![2, 1024, 16, 12, 128]⟩
abbrev S_ : Shape := ⟨0, ![]⟩
abbrev S2x16x64x16x12x128 : Shape := ⟨6, ![2, 16, 64, 16, 12, 128]⟩
abbrev S2x18x64x16x12x128 : Shape := ⟨6, ![2, 18, 64, 16, 12, 128]⟩
abbrev S2x16x192x16x12x128 : Shape := ⟨6, ![2, 16, 192, 16, 12, 128]⟩
abbrev S2x16x16x12x64x192 : Shape := ⟨6, ![2, 16, 16, 12, 64, 192]⟩
abbrev S16 : Shape := ⟨1, ![16]⟩
abbrev S16x1 : Shape := ⟨2, ![16, 1]⟩
abbrev S64 : Shape := ⟨1, ![64]⟩
abbrev S1x64 : Shape := ⟨2, ![1, 64]⟩
abbrev S16x64 : Shape := ⟨2, ![16, 64]⟩
abbrev S192 : Shape := ⟨1, ![192]⟩
abbrev S1x192 : Shape := ⟨2, ![1, 192]⟩
abbrev S16x192 : Shape := ⟨2, ![16, 192]⟩
abbrev S16x1x192 : Shape := ⟨3, ![16, 1, 192]⟩
abbrev S16x64x1 : Shape := ⟨3, ![16, 64, 1]⟩
abbrev S16x64x192 : Shape := ⟨3, ![16, 64, 192]⟩
abbrev S1x16x1x1x64x192 : Shape := ⟨6, ![1, 16, 1, 1, 64, 192]⟩
abbrev S2x16x16x12x64 : Shape := ⟨5, ![2, 16, 16, 12, 64]⟩
abbrev S2x16x16x12x64x1 : Shape := ⟨6, ![2, 16, 16, 12, 64, 1]⟩
abbrev S2x16x64x16x12 : Shape := ⟨5, ![2, 16, 64, 16, 12]⟩
abbrev S2x16x16x12x128x64 : Shape := ⟨6, ![2, 16, 16, 12, 128, 64]⟩
abbrev S2x16x64x16x12x1 : Shape := ⟨6, ![2, 16, 64, 16, 12, 1]⟩
abbrev S2x1024x16x12 : Shape := ⟨4, ![2, 1024, 16, 12]⟩
abbrev S2x16384x12 : Shape := ⟨3, ![2, 16384, 12]⟩
abbrev S2x16384x128 : Shape := ⟨3, ![2, 16384, 128]⟩
abbrev S2x1024x24576 : Shape := ⟨3, ![2, 1024, 24576]⟩
abbrev S2x1024x2048 : Shape := ⟨3, ![2, 1024, 2048]⟩

abbrev nBuf : Space → Nat
  | .hbm => 112
  | .vmem => 0
  | .smem => 0
  | _ => 0

abbrev bufTy : (tb : Table) → Fin (tcTables nBuf tb) → BufTy
  | .hbm, ⟨0, _⟩ => ⟨S2x16384x12x128, .f32⟩
  | .hbm, ⟨1, _⟩ => ⟨S2x16384x12x128, .f32⟩
  | .hbm, ⟨2, _⟩ => ⟨S2x16384x12x128, .f32⟩
  | .hbm, ⟨3, _⟩ => ⟨S2x1024x16x12x128, .f32⟩
  | .hbm, ⟨4, _⟩ => ⟨S_, .i32⟩
  | .hbm, ⟨5, _⟩ => ⟨S_, .f32⟩
  | .hbm, ⟨6, _⟩ => ⟨S2x1024x16x12x128, .f32⟩
  | .hbm, ⟨7, _⟩ => ⟨S2x16x64x16x12x128, .f32⟩
  | .hbm, ⟨8, _⟩ => ⟨S2x1024x16x12x128, .f32⟩
  | .hbm, ⟨9, _⟩ => ⟨S_, .i32⟩
  | .hbm, ⟨10, _⟩ => ⟨S_, .f32⟩
  | .hbm, ⟨11, _⟩ => ⟨S2x1024x16x12x128, .f32⟩
  | .hbm, ⟨12, _⟩ => ⟨S2x16x64x16x12x128, .f32⟩
  | .hbm, ⟨13, _⟩ => ⟨S_, .i32⟩
  | .hbm, ⟨14, _⟩ => ⟨S_, .f32⟩
  | .hbm, ⟨15, _⟩ => ⟨S2x18x64x16x12x128, .f32⟩
  | .hbm, ⟨16, _⟩ => ⟨S2x16x64x16x12x128, .f32⟩
  | .hbm, ⟨17, _⟩ => ⟨S2x16x64x16x12x128, .f32⟩
  | .hbm, ⟨18, _⟩ => ⟨S2x16x64x16x12x128, .f32⟩
  | .hbm, ⟨19, _⟩ => ⟨S2x16x192x16x12x128, .f32⟩
  | .hbm, ⟨20, _⟩ => ⟨S2x1024x16x12x128, .f32⟩
  | .hbm, ⟨21, _⟩ => ⟨S_, .i32⟩
  | .hbm, ⟨22, _⟩ => ⟨S_, .f32⟩
  | .hbm, ⟨23, _⟩ => ⟨S2x1024x16x12x128, .f32⟩
  | .hbm, ⟨24, _⟩ => ⟨S2x16x64x16x12x128, .f32⟩
  | .hbm, ⟨25, _⟩ => ⟨S_, .i32⟩
  | .hbm, ⟨26, _⟩ => ⟨S_, .f32⟩
  | .hbm, ⟨27, _⟩ => ⟨S2x18x64x16x12x128, .f32⟩
  | .hbm, ⟨28, _⟩ => ⟨S2x16x64x16x12x128, .f32⟩
  | .hbm, ⟨29, _⟩ => ⟨S2x16x64x16x12x128, .f32⟩
  | .hbm, ⟨30, _⟩ => ⟨S2x16x64x16x12x128, .f32⟩
  | .hbm, ⟨31, _⟩ => ⟨S2x16x192x16x12x128, .f32⟩
  | .hbm, ⟨32, _⟩ => ⟨S2x16x16x12x64x192, .f32⟩
  | .hbm, ⟨33, _⟩ => ⟨S16, .i32⟩
  | .hbm, ⟨34, _⟩ => ⟨S16x1, .i32⟩
  | .hbm, ⟨35, _⟩ => ⟨S_, .i32⟩
  | .hbm, ⟨36, _⟩ => ⟨S16x1, .i32⟩
  | .hbm, ⟨37, _⟩ => ⟨S16x1, .i32⟩
  | .hbm, ⟨38, _⟩ => ⟨S64, .i32⟩
  | .hbm, ⟨39, _⟩ => ⟨S1x64, .i32⟩
  | .hbm, ⟨40, _⟩ => ⟨S16x64, .i32⟩
  | .hbm, ⟨41, _⟩ => ⟨S16x64, .i32⟩
  | .hbm, ⟨42, _⟩ => ⟨S16x64, .i32⟩
  | .hbm, ⟨43, _⟩ => ⟨S16, .i32⟩
  | .hbm, ⟨44, _⟩ => ⟨S16x1, .i32⟩
  | .hbm, ⟨45, _⟩ => ⟨S_, .i32⟩
  | .hbm, ⟨46, _⟩ => ⟨S16x1, .i32⟩
  | .hbm, ⟨47, _⟩ => ⟨S16x1, .i32⟩
  | .hbm, ⟨48, _⟩ => ⟨S_, .i32⟩
  | .hbm, ⟨49, _⟩ => ⟨S16x1, .i32⟩
  | .hbm, ⟨50, _⟩ => ⟨S16x1, .i32⟩
  | .hbm, ⟨51, _⟩ => ⟨S192, .i32⟩
  | .hbm, ⟨52, _⟩ => ⟨S1x192, .i32⟩
  | .hbm, ⟨53, _⟩ => ⟨S16x192, .i32⟩
  | .hbm, ⟨54, _⟩ => ⟨S16x192, .i32⟩
  | .hbm, ⟨55, _⟩ => ⟨S16x192, .i32⟩
  | .hbm, ⟨56, _⟩ => ⟨S16x1x192, .i32⟩
  | .hbm, ⟨57, _⟩ => ⟨S16x64x1, .i32⟩
  | .hbm, ⟨58, _⟩ => ⟨S16x64x192, .i32⟩
  | .hbm, ⟨59, _⟩ => ⟨S16x64x192, .i32⟩
  | .hbm, ⟨60, _⟩ => ⟨S16x64x192, .i32⟩
  | .hbm, ⟨61, _⟩ => ⟨S16x64x192, .i32⟩
  | .hbm, ⟨62, _⟩ => ⟨S_, .i32⟩
  | .hbm, ⟨63, _⟩ => ⟨S16x64x192, .i32⟩
  | .hbm, ⟨64, _⟩ => ⟨S16x64x192, .i1⟩
  | .hbm, ⟨65, _⟩ => ⟨S16x1x192, .i32⟩
  | .hbm, ⟨66, _⟩ => ⟨S_, .i32⟩
  | .hbm, ⟨67, _⟩ => ⟨S16x1x192, .i32⟩
  | .hbm, ⟨68, _⟩ => ⟨S16x1x192, .i1⟩
  | .hbm, ⟨69, _⟩ => ⟨S16x64x192, .i1⟩
  | .hbm, ⟨70, _⟩ => ⟨S16x64x192, .i1⟩
  | .hbm, ⟨71, _⟩ => ⟨S16x1x192, .i32⟩
  | .hbm, ⟨72, _⟩ => ⟨S_, .i32⟩
  | .hbm, ⟨73, _⟩ => ⟨S16x1x192, .i32⟩
  | .hbm, ⟨74, _⟩ => ⟨S16x1x192, .i1⟩
  | .hbm, ⟨75, _⟩ => ⟨S16x64x192, .i1⟩
  | .hbm, ⟨76, _⟩ => ⟨S16x64x192, .i1⟩
  | .hbm, ⟨77, _⟩ => ⟨S1x16x1x1x64x192, .i1⟩
  | .hbm, ⟨78, _⟩ => ⟨S_, .f32⟩
  | .hbm, ⟨79, _⟩ => ⟨S_, .f32⟩
  | .hbm, ⟨80, _⟩ => ⟨S2x16x16x12x64x192, .i1⟩
  | .hbm, ⟨81, _⟩ => ⟨S2x16x16x12x64x192, .f32⟩
  | .hbm, ⟨82, _⟩ => ⟨S2x16x16x12x64x192, .f32⟩
  | .hbm, ⟨83, _⟩ => ⟨S_, .f32⟩
  | .hbm, ⟨84, _⟩ => ⟨S2x16x16x12x64, .f32⟩
  | .hbm, ⟨85, _⟩ => ⟨S2x16x16x12x64x1, .f32⟩
  | .hbm, ⟨86, _⟩ => ⟨S2x16x16x12x64x192, .f32⟩
  | .hbm, ⟨87, _⟩ => ⟨S2x16x16x12x64x192, .f32⟩
  | .hbm, ⟨88, _⟩ => ⟨S2x16x16x12x64x192, .f32⟩
  | .hbm, ⟨89, _⟩ => ⟨S_, .f32⟩
  | .hbm, ⟨90, _⟩ => ⟨S2x16x16x12x64, .f32⟩
  | .hbm, ⟨91, _⟩ => ⟨S2x16x64x16x12, .f32⟩
  | .hbm, ⟨92, _⟩ => ⟨S2x16x64x16x12, .f32⟩
  | .hbm, ⟨93, _⟩ => ⟨S2x16x16x12x128x64, .f32⟩
  | .hbm, ⟨94, _⟩ => ⟨S2x16x64x16x12x128, .f32⟩
  | .hbm, ⟨95, _⟩ => ⟨S2x16x64x16x12x1, .f32⟩
  | .hbm, ⟨96, _⟩ => ⟨S2x16x64x16x12x128, .f32⟩
  | .hbm, ⟨97, _⟩ => ⟨S2x16x64x16x12x128, .f32⟩
  | .hbm, ⟨98, _⟩ => ⟨S2x1024x16x12x128, .f32⟩
  | .hbm, ⟨99, _⟩ => ⟨S2x16384x12x128, .f32⟩
  | .hbm, ⟨100, _⟩ => ⟨S2x1024x16x12, .f32⟩
  | .hbm, ⟨101, _⟩ => ⟨S2x16384x12, .f32⟩
  | .hbm, ⟨102, _⟩ => ⟨S2x1024x16x12, .f32⟩
  | .hbm, ⟨103, _⟩ => ⟨S2x16384x12, .f32⟩
  | .hbm, ⟨104, _⟩ => ⟨S2x16384x12, .f32⟩
  | .hbm, ⟨105, _⟩ => ⟨S2x16384x12, .f32⟩
  | .hbm, ⟨106, _⟩ => ⟨S_, .i32⟩
  | .hbm, ⟨107, _⟩ => ⟨S_, .f32⟩
  | .hbm, ⟨108, _⟩ => ⟨S2x16384x128, .f32⟩
  | .hbm, ⟨109, _⟩ => ⟨S2x1024x24576, .f32⟩
  | .hbm, ⟨110, _⟩ => ⟨S2x1024x24576, .bf16⟩
  | .hbm, ⟨111, _⟩ => ⟨S2x1024x2048, .f32⟩
  | _, _ => ⟨S2x16384x12x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_call1_v0 : Ref sig .tc := ⟨.hbm, 10, rfl⟩
abbrev main_v4 : Ref sig .tc := ⟨.hbm, 11, rfl⟩
abbrev main_v5 : Ref sig .tc := ⟨.hbm, 12, rfl⟩
abbrev main_c_1 : Ref sig .tc := ⟨.hbm, 13, rfl⟩
abbrev main_call2_v0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c_2 : Ref sig .tc := ⟨.hbm, 21, rfl⟩
abbrev main_call3_v0 : Ref sig .tc := ⟨.hbm, 22, rfl⟩
abbrev main_v12 : Ref sig .tc := ⟨.hbm, 23, rfl⟩
abbrev main_v13 : Ref sig .tc := ⟨.hbm, 24, rfl⟩
abbrev main_c_3 : Ref sig .tc := ⟨.hbm, 25, rfl⟩
abbrev main_call4_v0 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_5 : Ref sig .tc := ⟨.hbm, 45, rfl⟩
abbrev main_v31 : Ref sig .tc := ⟨.hbm, 46, rfl⟩
abbrev main_v32 : Ref sig .tc := ⟨.hbm, 47, rfl⟩
abbrev main_c_6 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_c_7 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_c_8 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_c_9 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_cst : Ref sig .tc := ⟨.hbm, 78, rfl⟩
abbrev main_call5_v0 : Ref sig .tc := ⟨.hbm, 79, rfl⟩
abbrev main_call5_v1 : Ref sig .tc := ⟨.hbm, 80, rfl⟩
abbrev main_call5_v2 : Ref sig .tc := ⟨.hbm, 81, rfl⟩
abbrev main_v59 : Ref sig .tc := ⟨.hbm, 82, rfl⟩
abbrev main_cst_10 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_cst_11 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_c_12 : Ref sig .tc := ⟨.hbm, 106, rfl⟩
abbrev main_call6_v0 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩

abbrev nD : Nat := 1
abbrev τ : Topo := Topo.v7x

variable {F : FTy → Type} [FloatOps F]
-- ==== Kernel4.lean ====
abbrev S2x16384x12x128 : Shape := ⟨4, ![2, 16384, 12, 128]⟩
abbrev S2x4096x6144 : Shape := ⟨3, ![2, 4096, 6144]⟩
abbrev S2x4096x512 : Shape := ⟨3, ![2, 4096, 512]⟩
abbrev S1x512x1536 : Shape := ⟨3, ![1, 512, 1536]⟩
abbrev S1x64x1536 : Shape := ⟨3, ![1, 64, 1536]⟩
abbrev S1x512x128 : Shape := ⟨3, ![1, 512, 128]⟩
abbrev S128x256 : Shape := ⟨2, ![128, 256]⟩
abbrev S128x128 : Shape := ⟨2, ![128, 128]⟩
abbrev S1x64x128 : Shape := ⟨3, ![1, 64, 128]⟩
abbrev S64x128 : Shape := ⟨2, ![64, 128]⟩
abbrev S512x128 : Shape := ⟨2, ![512, 128]⟩
abbrev S640x128 : Shape := ⟨2, ![640, 128]⟩
abbrev S1x128x128 : Shape := ⟨3, ![1, 128, 128]⟩
abbrev S256x128 : Shape := ⟨2, ![256, 128]⟩
abbrev S128 : Shape := ⟨1, ![128]⟩
abbrev S128x1 : Shape := ⟨2, ![128, 1]⟩

abbrev nBuf : Space → Nat
  | .hbm => 11
  | .vmem => 18
  | .smem => 0
  | _ => 0

abbrev bufTy : (tb : Table) → Fin (tcTables nBuf tb) → BufTy
  | .hbm, ⟨0, _⟩ => ⟨S2x16384x12x128, .f32⟩
  | .hbm, ⟨1, _⟩ => ⟨S2x16384x12x128, .f32⟩
  | .hbm, ⟨2, _⟩ => ⟨S2x16384x12x128, .f32⟩
  | .hbm, ⟨3, _⟩ => ⟨S2x16384x12x128, .bf16⟩
  | .hbm, ⟨4, _⟩ => ⟨S2x4096x6144, .bf16⟩
  | .hbm, ⟨5, _⟩ => ⟨S2x16384x12x128, .bf16⟩
  | .hbm, ⟨6, _⟩ => ⟨S2x4096x6144, .bf16⟩
  | .hbm, ⟨7, _⟩ => ⟨S2x16384x12x128, .bf16⟩
  | .hbm, ⟨8, _⟩ => ⟨S2x4096x6144, .bf16⟩
  | .hbm, ⟨9, _⟩ => ⟨S2x4096x6144, .bf16⟩
  | .hbm, ⟨10, _⟩ => ⟨S2x4096x512, .f32⟩
  | .local _ .vmem, ⟨0, _⟩ => ⟨S1x512x1536, .bf16⟩
  | .local _ .vmem, ⟨1, _⟩ => ⟨S1x512x1536, .bf16⟩
  | .local _ .vmem, ⟨2, _⟩ => ⟨S1x512x1536, .bf16⟩
  | .local _ .vmem, ⟨3, _⟩ => ⟨S1x512x1536, .bf16⟩
  | .local _ .vmem, ⟨4, _⟩ => ⟨S1x64x1536, .bf16⟩
  | .local _ .vmem, ⟨5, _⟩ => ⟨S1x64x1536, .bf16⟩
  | .local _ .vmem, ⟨6, _⟩ => ⟨S1x64x1536, .bf16⟩
  | .local _ .vmem, ⟨7, _⟩ => ⟨S1x64x1536, .bf16⟩
  | .local _ .vmem, ⟨8, _⟩ => ⟨S1x512x1536, .bf16⟩
  | .local _ .vmem, ⟨9, _⟩ => ⟨S1x512x1536, .bf16⟩
  | .local _ .vmem, ⟨10, _⟩ => ⟨S1x64x1536, .bf16⟩
  | .local _ .vmem, ⟨11, _⟩ => ⟨S1x64x1536, .bf16⟩
  | .local _ .vmem, ⟨12, _⟩ => ⟨S1x64x1536, .bf16⟩
  | .local _ .vmem, ⟨13, _⟩ => ⟨S1x64x1536, .bf16⟩
  | .local _ .vmem, ⟨14, _⟩ => ⟨S1x512x1536, .bf16⟩
  | .local _ .vmem, ⟨15, _⟩ => ⟨S1x512x1536, .bf16⟩
  | .local _ .vmem, ⟨16, _⟩ => ⟨S1x512x128, .f32⟩
  | .local _ .vmem, ⟨17, _⟩ => ⟨S1x512x128, .f32⟩
  | _, _ => ⟨S2x16384x12x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6_0 : Ref sig .tc := ⟨.hbm, 9, rfl⟩
abbrev main_v6_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![2, 4, 8], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg2 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![arg0.toNat, v2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c8_i32 : BitVec 32 := 8#32
  let v1 : BitVec 32 := Scalar.muli v0 c8_i32
  let c63_i32 : BitVec 32 := 63#32
  let v2 : BitVec 32 := Scalar.minsi v1 c63_i32
  let c0_i32 : BitVec 32 := 0#32
  ![arg0.toNat, v2.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg2 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![arg0.toNat, v2.toNat, arg1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c8_i32 : BitVec 32 := 8#32
  let v1 : BitVec 32 := Scalar.muli v0 c8_i32
  let c63_i32 : BitVec 32 := 63#32
  let v2 : BitVec 32 := Scalar.minsi v1 c63_i32
  let c0_i32 : BitVec 32 := 0#32
  ![arg0.toNat, v2.toNat, arg1.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x512x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x64x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x64x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x512x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x64x1536 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x64x1536 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x512x1536 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== Kernel4Ideal.lean ====
variable {F : FTy → Type} [FloatOps F] [Named F]
def κ : String → Option EReal := fun
  | "mask" => some ⊥
  | _ => none
-- ==== Reference4Ideal.lean ====
abbrev S2x16384x12x128 : Shape := ⟨4, ![2, 16384, 12, 128]⟩
abbrev S2x4096x4x12x128 : Shape := ⟨5, ![2, 4096, 4, 12, 128]⟩
abbrev S_ : Shape := ⟨0, ![]⟩
abbrev S2x64x64x4x12x128 : Shape := ⟨6, ![2, 64, 64, 4, 12, 128]⟩
abbrev S2x66x64x4x12x128 : Shape := ⟨6, ![2, 66, 64, 4, 12, 128]⟩
abbrev S2x64x192x4x12x128 : Shape := ⟨6, ![2, 64, 192, 4, 12, 128]⟩
abbrev S2x64x4x12x64x192 : Shape := ⟨6, ![2, 64, 4, 12, 64, 192]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S192 : Shape := ⟨1, ![192]⟩
abbrev S1x192 : Shape := ⟨2, ![1, 192]⟩
abbrev S64x192 : Shape := ⟨2, ![64, 192]⟩
abbrev S64x1x192 : Shape := ⟨3, ![64, 1, 192]⟩
abbrev S64x64x1 : Shape := ⟨3, ![64, 64, 1]⟩
abbrev S64x64x192 : Shape := ⟨3, ![64, 64, 192]⟩
abbrev S1x64x1x1x64x192 : Shape := ⟨6, ![1, 64, 1, 1, 64, 192]⟩
abbrev S2x64x4x12x64 : Shape := ⟨5, ![2, 64, 4, 12, 64]⟩
abbrev S2x64x4x12x64x1 : Shape := ⟨6, ![2, 64, 4, 12, 64, 1]⟩
abbrev S2x64x64x4x12 : Shape := ⟨5, ![2, 64, 64, 4, 12]⟩
abbrev S2x64x4x12x128x64 : Shape := ⟨6, ![2, 64, 4, 12, 128, 64]⟩
abbrev S2x64x64x4x12x1 : Shape := ⟨6, ![2, 64, 64, 4, 12, 1]⟩
abbrev S2x4096x4x12 : Shape := ⟨4, ![2, 4096, 4, 12]⟩
abbrev S2x16384x12 : Shape := ⟨3, ![2, 16384, 12]⟩
abbrev S2x16384x128 : Shape := ⟨3, ![2, 16384, 128]⟩
abbrev S2x4096x6144 : Shape := ⟨3, ![2, 4096, 6144]⟩
abbrev S2x4096x512 : Shape := ⟨3, ![2, 4096, 512]⟩

abbrev nBuf : Space → Nat
  | .hbm => 112
  | .vmem => 0
  | .smem => 0
  | _ => 0

abbrev bufTy : (tb : Table) → Fin (tcTables nBuf tb) → BufTy
  | .hbm, ⟨0, _⟩ => ⟨S2x16384x12x128, .f32⟩
  | .hbm, ⟨1, _⟩ => ⟨S2x16384x12x128, .f32⟩
  | .hbm, ⟨2, _⟩ => ⟨S2x16384x12x128, .f32⟩
  | .hbm, ⟨3, _⟩ => ⟨S2x4096x4x12x128, .f32⟩
  | .hbm, ⟨4, _⟩ => ⟨S_, .i32⟩
  | .hbm, ⟨5, _⟩ => ⟨S_, .f32⟩
  | .hbm, ⟨6, _⟩ => ⟨S2x4096x4x12x128, .f32⟩
  | .hbm, ⟨7, _⟩ => ⟨S2x64x64x4x12x128, .f32⟩
  | .hbm, ⟨8, _⟩ => ⟨S2x4096x4x12x128, .f32⟩
  | .hbm, ⟨9, _⟩ => ⟨S_, .i32⟩
  | .hbm, ⟨10, _⟩ => ⟨S_, .f32⟩
  | .hbm, ⟨11, _⟩ => ⟨S2x4096x4x12x128, .f32⟩
  | .hbm, ⟨12, _⟩ => ⟨S2x64x64x4x12x128, .f32⟩
  | .hbm, ⟨13, _⟩ => ⟨S_, .i32⟩
  | .hbm, ⟨14, _⟩ => ⟨S_, .f32⟩
  | .hbm, ⟨15, _⟩ => ⟨S2x66x64x4x12x128, .f32⟩
  | .hbm, ⟨16, _⟩ => ⟨S2x64x64x4x12x128, .f32⟩
  | .hbm, ⟨17, _⟩ => ⟨S2x64x64x4x12x128, .f32⟩
  | .hbm, ⟨18, _⟩ => ⟨S2x64x64x4x12x128, .f32⟩
  | .hbm, ⟨19, _⟩ => ⟨S2x64x192x4x12x128, .f32⟩
  | .hbm, ⟨20, _⟩ => ⟨S2x4096x4x12x128, .f32⟩
  | .hbm, ⟨21, _⟩ => ⟨S_, .i32⟩
  | .hbm, ⟨22, _⟩ => ⟨S_, .f32⟩
  | .hbm, ⟨23, _⟩ => ⟨S2x4096x4x12x128, .f32⟩
  | .hbm, ⟨24, _⟩ => ⟨S2x64x64x4x12x128, .f32⟩
  | .hbm, ⟨25, _⟩ => ⟨S_, .i32⟩
  | .hbm, ⟨26, _⟩ => ⟨S_, .f32⟩
  | .hbm, ⟨27, _⟩ => ⟨S2x66x64x4x12x128, .f32⟩
  | .hbm, ⟨28, _⟩ => ⟨S2x64x64x4x12x128, .f32⟩
  | .hbm, ⟨29, _⟩ => ⟨S2x64x64x4x12x128, .f32⟩
  | .hbm, ⟨30, _⟩ => ⟨S2x64x64x4x12x128, .f32⟩
  | .hbm, ⟨31, _⟩ => ⟨S2x64x192x4x12x128, .f32⟩
  | .hbm, ⟨32, _⟩ => ⟨S2x64x4x12x64x192, .f32⟩
  | .hbm, ⟨33, _⟩ => ⟨S64, .i32⟩
  | .hbm, ⟨34, _⟩ => ⟨S64x1, .i32⟩
  | .hbm, ⟨35, _⟩ => ⟨S_, .i32⟩
  | .hbm, ⟨36, _⟩ => ⟨S64x1, .i32⟩
  | .hbm, ⟨37, _⟩ => ⟨S64x1, .i32⟩
  | .hbm, ⟨38, _⟩ => ⟨S64, .i32⟩
  | .hbm, ⟨39, _⟩ => ⟨S1x64, .i32⟩
  | .hbm, ⟨40, _⟩ => ⟨S64x64, .i32⟩
  | .hbm, ⟨41, _⟩ => ⟨S64x64, .i32⟩
  | .hbm, ⟨42, _⟩ => ⟨S64x64, .i32⟩
  | .hbm, ⟨43, _⟩ => ⟨S64, .i32⟩
  | .hbm, ⟨44, _⟩ => ⟨S64x1, .i32⟩
  | .hbm, ⟨45, _⟩ => ⟨S_, .i32⟩
  | .hbm, ⟨46, _⟩ => ⟨S64x1, .i32⟩
  | .hbm, ⟨47, _⟩ => ⟨S64x1, .i32⟩
  | .hbm, ⟨48, _⟩ => ⟨S_, .i32⟩
  | .hbm, ⟨49, _⟩ => ⟨S64x1, .i32⟩
  | .hbm, ⟨50, _⟩ => ⟨S64x1, .i32⟩
  | .hbm, ⟨51, _⟩ => ⟨S192, .i32⟩
  | .hbm, ⟨52, _⟩ => ⟨S1x192, .i32⟩
  | .hbm, ⟨53, _⟩ => ⟨S64x192, .i32⟩
  | .hbm, ⟨54, _⟩ => ⟨S64x192, .i32⟩
  | .hbm, ⟨55, _⟩ => ⟨S64x192, .i32⟩
  | .hbm, ⟨56, _⟩ => ⟨S64x1x192, .i32⟩
  | .hbm, ⟨57, _⟩ => ⟨S64x64x1, .i32⟩
  | .hbm, ⟨58, _⟩ => ⟨S64x64x192, .i32⟩
  | .hbm, ⟨59, _⟩ => ⟨S64x64x192, .i32⟩
  | .hbm, ⟨60, _⟩ => ⟨S64x64x192, .i32⟩
  | .hbm, ⟨61, _⟩ => ⟨S64x64x192, .i32⟩
  | .hbm, ⟨62, _⟩ => ⟨S_, .i32⟩
  | .hbm, ⟨63, _⟩ => ⟨S64x64x192, .i32⟩
  | .hbm, ⟨64, _⟩ => ⟨S64x64x192, .i1⟩
  | .hbm, ⟨65, _⟩ => ⟨S64x1x192, .i32⟩
  | .hbm, ⟨66, _⟩ => ⟨S_, .i32⟩
  | .hbm, ⟨67, _⟩ => ⟨S64x1x192, .i32⟩
  | .hbm, ⟨68, _⟩ => ⟨S64x1x192, .i1⟩
  | .hbm, ⟨69, _⟩ => ⟨S64x64x192, .i1⟩
  | .hbm, ⟨70, _⟩ => ⟨S64x64x192, .i1⟩
  | .hbm, ⟨71, _⟩ => ⟨S64x1x192, .i32⟩
  | .hbm, ⟨72, _⟩ => ⟨S_, .i32⟩
  | .hbm, ⟨73, _⟩ => ⟨S64x1x192, .i32⟩
  | .hbm, ⟨74, _⟩ => ⟨S64x1x192, .i1⟩
  | .hbm, ⟨75, _⟩ => ⟨S64x64x192, .i1⟩
  | .hbm, ⟨76, _⟩ => ⟨S64x64x192, .i1⟩
  | .hbm, ⟨77, _⟩ => ⟨S1x64x1x1x64x192, .i1⟩
  | .hbm, ⟨78, _⟩ => ⟨S_, .f32⟩
  | .hbm, ⟨79, _⟩ => ⟨S_, .f32⟩
  | .hbm, ⟨80, _⟩ => ⟨S2x64x4x12x64x192, .i1⟩
  | .hbm, ⟨81, _⟩ => ⟨S2x64x4x12x64x192, .f32⟩
  | .hbm, ⟨82, _⟩ => ⟨S2x64x4x12x64x192, .f32⟩
  | .hbm, ⟨83, _⟩ => ⟨S_, .f32⟩
  | .hbm, ⟨84, _⟩ => ⟨S2x64x4x12x64, .f32⟩
  | .hbm, ⟨85, _⟩ => ⟨S2x64x4x12x64x1, .f32⟩
  | .hbm, ⟨86, _⟩ => ⟨S2x64x4x12x64x192, .f32⟩
  | .hbm, ⟨87, _⟩ => ⟨S2x64x4x12x64x192, .f32⟩
  | .hbm, ⟨88, _⟩ => ⟨S2x64x4x12x64x192, .f32⟩
  | .hbm, ⟨89, _⟩ => ⟨S_, .f32⟩
  | .hbm, ⟨90, _⟩ => ⟨S2x64x4x12x64, .f32⟩
  | .hbm, ⟨91, _⟩ => ⟨S2x64x64x4x12, .f32⟩
  | .hbm, ⟨92, _⟩ => ⟨S2x64x64x4x12, .f32⟩
  | .hbm, ⟨93, _⟩ => ⟨S2x64x4x12x128x64, .f32⟩
  | .hbm, ⟨94, _⟩ => ⟨S2x64x64x4x12x128, .f32⟩
  | .hbm, ⟨95, _⟩ => ⟨S2x64x64x4x12x1, .f32⟩
  | .hbm, ⟨96, _⟩ => ⟨S2x64x64x4x12x128, .f32⟩
  | .hbm, ⟨97, _⟩ => ⟨S2x64x64x4x12x128, .f32⟩
  | .hbm, ⟨98, _⟩ => ⟨S2x4096x4x12x128, .f32⟩
  | .hbm, ⟨99, _⟩ => ⟨S2x16384x12x128, .f32⟩
  | .hbm, ⟨100, _⟩ => ⟨S2x4096x4x12, .f32⟩
  | .hbm, ⟨101, _⟩ => ⟨S2x16384x12, .f32⟩
  | .hbm, ⟨102, _⟩ => ⟨S2x4096x4x12, .f32⟩
  | .hbm, ⟨103, _⟩ => ⟨S2x16384x12, .f32⟩
  | .hbm, ⟨104, _⟩ => ⟨S2x16384x12, .f32⟩
  | .hbm, ⟨105, _⟩ => ⟨S2x16384x12, .f32⟩
  | .hbm, ⟨106, _⟩ => ⟨S_, .i32⟩
  | .hbm, ⟨107, _⟩ => ⟨S_, .f32⟩
  | .hbm, ⟨108, _⟩ => ⟨S2x16384x128, .f32⟩
  | .hbm, ⟨109, _⟩ => ⟨S2x4096x6144, .f32⟩
  | .hbm, ⟨110, _⟩ => ⟨S2x4096x6144, .bf16⟩
  | .hbm, ⟨111, _⟩ => ⟨S2x4096x512, .f32⟩
  | _, _ => ⟨S2x16384x12x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_call1_v0 : Ref sig .tc := ⟨.hbm, 10, rfl⟩
abbrev main_v4 : Ref sig .tc := ⟨.hbm, 11, rfl⟩
abbrev main_v5 : Ref sig .tc := ⟨.hbm, 12, rfl⟩
abbrev main_c_1 : Ref sig .tc := ⟨.hbm, 13, rfl⟩
abbrev main_call2_v0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c_2 : Ref sig .tc := ⟨.hbm, 21, rfl⟩
abbrev main_call3_v0 : Ref sig .tc := ⟨.hbm, 22, rfl⟩
abbrev main_v12 : Ref sig .tc := ⟨.hbm, 23, rfl⟩
abbrev main_v13 : Ref sig .tc := ⟨.hbm, 24, rfl⟩
abbrev main_c_3 : Ref sig .tc := ⟨.hbm, 25, rfl⟩
abbrev main_call4_v0 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_5 : Ref sig .tc := ⟨.hbm, 45, rfl⟩
abbrev main_v31 : Ref sig .tc := ⟨.hbm, 46, rfl⟩
abbrev main_v32 : Ref sig .tc := ⟨.hbm, 47, rfl⟩
abbrev main_c_6 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_c_7 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_c_8 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_c_9 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_cst : Ref sig .tc := ⟨.hbm, 78, rfl⟩
abbrev main_call5_v0 : Ref sig .tc := ⟨.hbm, 79, rfl⟩
abbrev main_call5_v1 : Ref sig .tc := ⟨.hbm, 80, rfl⟩
abbrev main_call5_v2 : Ref sig .tc := ⟨.hbm, 81, rfl⟩
abbrev main_v59 : Ref sig .tc := ⟨.hbm, 82, rfl⟩
abbrev main_cst_10 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_cst_11 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_c_12 : Ref sig .tc := ⟨.hbm, 106, rfl⟩
abbrev main_call6_v0 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩

abbrev nD : Nat := 1
abbrev τ : Topo := Topo.v7x

variable {F : FTy → Type} [FloatOps F]
-- ==== Kernel1.lean ====
abbrev S2x16384x12x128 : Shape := ⟨4, ![2, 16384, 12, 128]⟩
abbrev S2x16384x1536 : Shape := ⟨3, ![2, 16384, 1536]⟩
abbrev S2x16384x128 : Shape := ⟨3, ![2, 16384, 128]⟩
abbrev S1x512x1536 : Shape := ⟨3, ![1, 512, 1536]⟩
abbrev S1x64x1536 : Shape := ⟨3, ![1, 64, 1536]⟩
abbrev S1x512x128 : Shape := ⟨3, ![1, 512, 128]⟩
abbrev S128x256 : Shape := ⟨2, ![128, 256]⟩
abbrev S128x128 : Shape := ⟨2, ![128, 128]⟩
abbrev S1x64x128 : Shape := ⟨3, ![1, 64, 128]⟩
abbrev S64x128 : Shape := ⟨2, ![64, 128]⟩
abbrev S512x128 : Shape := ⟨2, ![512, 128]⟩
abbrev S640x128 : Shape := ⟨2, ![640, 128]⟩
abbrev S1x128x128 : Shape := ⟨3, ![1, 128, 128]⟩
abbrev S256x128 : Shape := ⟨2, ![256, 128]⟩
abbrev S128 : Shape := ⟨1, ![128]⟩
abbrev S128x1 : Shape := ⟨2, ![128, 1]⟩

abbrev nBuf : Space → Nat
  | .hbm => 11
  | .vmem => 18
  | .smem => 0
  | _ => 0

abbrev bufTy : (tb : Table) → Fin (tcTables nBuf tb) → BufTy
  | .hbm, ⟨0, _⟩ => ⟨S2x16384x12x128, .f32⟩
  | .hbm, ⟨1, _⟩ => ⟨S2x16384x12x128, .f32⟩
  | .hbm, ⟨2, _⟩ => ⟨S2x16384x12x128, .f32⟩
  | .hbm, ⟨3, _⟩ => ⟨S2x16384x12x128, .bf16⟩
  | .hbm, ⟨4, _⟩ => ⟨S2x16384x1536, .bf16⟩
  | .hbm, ⟨5, _⟩ => ⟨S2x16384x12x128, .bf16⟩
  | .hbm, ⟨6, _⟩ => ⟨S2x16384x1536, .bf16⟩
  | .hbm, ⟨7, _⟩ => ⟨S2x16384x12x128, .bf16⟩
  | .hbm, ⟨8, _⟩ => ⟨S2x16384x1536, .bf16⟩
  | .hbm, ⟨9, _⟩ => ⟨S2x16384x1536, .bf16⟩
  | .hbm, ⟨10, _⟩ => ⟨S2x16384x128, .f32⟩
  | .local _ .vmem, ⟨0, _⟩ => ⟨S1x512x1536, .bf16⟩
  | .local _ .vmem, ⟨1, _⟩ => ⟨S1x512x1536, .bf16⟩
  | .local _ .vmem, ⟨2, _⟩ => ⟨S1x512x1536, .bf16⟩
  | .local _ .vmem, ⟨3, _⟩ => ⟨S1x512x1536, .bf16⟩
  | .local _ .vmem, ⟨4, _⟩ => ⟨S1x64x1536, .bf16⟩
  | .local _ .vmem, ⟨5, _⟩ => ⟨S1x64x1536, .bf16⟩
  | .local _ .vmem, ⟨6, _⟩ => ⟨S1x64x1536, .bf16⟩
  | .local _ .vmem, ⟨7, _⟩ => ⟨S1x64x1536, .bf16⟩
  | .local _ .vmem, ⟨8, _⟩ => ⟨S1x512x1536, .bf16⟩
  | .local _ .vmem, ⟨9, _⟩ => ⟨S1x512x1536, .bf16⟩
  | .local _ .vmem, ⟨10, _⟩ => ⟨S1x64x1536, .bf16⟩
  | .local _ .vmem, ⟨11, _⟩ => ⟨S1x64x1536, .bf16⟩
  | .local _ .vmem, ⟨12, _⟩ => ⟨S1x64x1536, .bf16⟩
  | .local _ .vmem, ⟨13, _⟩ => ⟨S1x64x1536, .bf16⟩
  | .local _ .vmem, ⟨14, _⟩ => ⟨S1x512x1536, .bf16⟩
  | .local _ .vmem, ⟨15, _⟩ => ⟨S1x512x1536, .bf16⟩
  | .local _ .vmem, ⟨16, _⟩ => ⟨S1x512x128, .f32⟩
  | .local _ .vmem, ⟨17, _⟩ => ⟨S1x512x128, .f32⟩
  | _, _ => ⟨S2x16384x12x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6_0 : Ref sig .tc := ⟨.hbm, 9, rfl⟩
abbrev main_v6_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![2, 1, 32], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg2 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![arg0.toNat, v2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c8_i32 : BitVec 32 := 8#32
  let v1 : BitVec 32 := Scalar.muli v0 c8_i32
  let c255_i32 : BitVec 32 := 255#32
  let v2 : BitVec 32 := Scalar.minsi v1 c255_i32
  let c0_i32 : BitVec 32 := 0#32
  ![arg0.toNat, v2.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg2 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![arg0.toNat, v2.toNat, arg1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c8_i32 : BitVec 32 := 8#32
  let v1 : BitVec 32 := Scalar.muli v0 c8_i32
  let c255_i32 : BitVec 32 := 255#32
  let v2 : BitVec 32 := Scalar.minsi v1 c255_i32
  let c0_i32 : BitVec 32 := 0#32
  ![arg0.toNat, v2.toNat, arg1.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x512x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x64x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x64x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x512x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x64x1536 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x64x1536 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x512x1536 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== Kernel1Ideal.lean ====
variable {F : FTy → Type} [FloatOps F] [Named F]
def κ : String → Option EReal := fun
  | "mask" => some ⊥
  | _ => none
-- ==== Reference1Ideal.lean ====
abbrev S2x16384x12x128 : Shape := ⟨4, ![2, 16384, 12, 128]⟩
abbrev S2x16384x1x12x128 : Shape := ⟨5, ![2, 16384, 1, 12, 128]⟩
abbrev S_ : Shape := ⟨0, ![]⟩
abbrev S2x256x64x1x12x128 : Shape := ⟨6, ![2, 256, 64, 1, 12, 128]⟩
abbrev S2x258x64x1x12x128 : Shape := ⟨6, ![2, 258, 64, 1, 12, 128]⟩
abbrev S2x256x192x1x12x128 : Shape := ⟨6, ![2, 256, 192, 1, 12, 128]⟩
abbrev S2x256x1x12x64x192 : Shape := ⟨6, ![2, 256, 1, 12, 64, 192]⟩
abbrev S256 : Shape := ⟨1, ![256]⟩
abbrev S256x1 : Shape := ⟨2, ![256, 1]⟩
abbrev S64 : Shape := ⟨1, ![64]⟩
abbrev S1x64 : Shape := ⟨2, ![1, 64]⟩
abbrev S256x64 : Shape := ⟨2, ![256, 64]⟩
abbrev S192 : Shape := ⟨1, ![192]⟩
abbrev S1x192 : Shape := ⟨2, ![1, 192]⟩
abbrev S256x192 : Shape := ⟨2, ![256, 192]⟩
abbrev S256x1x192 : Shape := ⟨3, ![256, 1, 192]⟩
abbrev S256x64x1 : Shape := ⟨3, ![256, 64, 1]⟩
abbrev S256x64x192 : Shape := ⟨3, ![256, 64, 192]⟩
abbrev S1x256x1x1x64x192 : Shape := ⟨6, ![1, 256, 1, 1, 64, 192]⟩
abbrev S2x256x1x12x64 : Shape := ⟨5, ![2, 256, 1, 12, 64]⟩
abbrev S2x256x1x12x64x1 : Shape := ⟨6, ![2, 256, 1, 12, 64, 1]⟩
abbrev S2x256x64x1x12 : Shape := ⟨5, ![2, 256, 64, 1, 12]⟩
abbrev S2x256x1x12x128x64 : Shape := ⟨6, ![2, 256, 1, 12, 128, 64]⟩
abbrev S2x256x64x1x12x1 : Shape := ⟨6, ![2, 256, 64, 1, 12, 1]⟩
abbrev S2x16384x1x12 : Shape := ⟨4, ![2, 16384, 1, 12]⟩
abbrev S2x16384x12 : Shape := ⟨3, ![2, 16384, 12]⟩
abbrev S2x16384x128 : Shape := ⟨3, ![2, 16384, 128]⟩
abbrev S2x16384x1536 : Shape := ⟨3, ![2, 16384, 1536]⟩

abbrev nBuf : Space → Nat
  | .hbm => 111
  | .vmem => 0
  | .smem => 0
  | _ => 0

abbrev bufTy : (tb : Table) → Fin (tcTables nBuf tb) → BufTy
  | .hbm, ⟨0, _⟩ => ⟨S2x16384x12x128, .f32⟩
  | .hbm, ⟨1, _⟩ => ⟨S2x16384x12x128, .f32⟩
  | .hbm, ⟨2, _⟩ => ⟨S2x16384x12x128, .f32⟩
  | .hbm, ⟨3, _⟩ => ⟨S2x16384x1x12x128, .f32⟩
  | .hbm, ⟨4, _⟩ => ⟨S_, .i32⟩
  | .hbm, ⟨5, _⟩ => ⟨S_, .f32⟩
  | .hbm, ⟨6, _⟩ => ⟨S2x16384x1x12x128, .f32⟩
  | .hbm, ⟨7, _⟩ => ⟨S2x256x64x1x12x128, .f32⟩
  | .hbm, ⟨8, _⟩ => ⟨S2x16384x1x12x128, .f32⟩
  | .hbm, ⟨9, _⟩ => ⟨S_, .i32⟩
  | .hbm, ⟨10, _⟩ => ⟨S_, .f32⟩
  | .hbm, ⟨11, _⟩ => ⟨S2x16384x1x12x128, .f32⟩
  | .hbm, ⟨12, _⟩ => ⟨S2x256x64x1x12x128, .f32⟩
  | .hbm, ⟨13, _⟩ => ⟨S_, .i32⟩
  | .hbm, ⟨14, _⟩ => ⟨S_, .f32⟩
  | .hbm, ⟨15, _⟩ => ⟨S2x258x64x1x12x128, .f32⟩
  | .hbm, ⟨16, _⟩ => ⟨S2x256x64x1x12x128, .f32⟩
  | .hbm, ⟨17, _⟩ => ⟨S2x256x64x1x12x128, .f32⟩
  | .hbm, ⟨18, _⟩ => ⟨S2x256x64x1x12x128, .f32⟩
  | .hbm, ⟨19, _⟩ => ⟨S2x256x192x1x12x128, .f32⟩
  | .hbm, ⟨20, _⟩ => ⟨S2x16384x1x12x128, .f32⟩
  | .hbm, ⟨21, _⟩ => ⟨S_, .i32⟩
  | .hbm, ⟨22, _⟩ => ⟨S_, .f32⟩
  | .hbm, ⟨23, _⟩ => ⟨S2x16384x1x12x128, .f32⟩
  | .hbm, ⟨24, _⟩ => ⟨S2x256x64x1x12x128, .f32⟩
  | .hbm, ⟨25, _⟩ => ⟨S_, .i32⟩
  | .hbm, ⟨26, _⟩ => ⟨S_, .f32⟩
  | .hbm, ⟨27, _⟩ => ⟨S2x258x64x1x12x128, .f32⟩
  | .hbm, ⟨28, _⟩ => ⟨S2x256x64x1x12x128, .f32⟩
  | .hbm, ⟨29, _⟩ => ⟨S2x256x64x1x12x128, .f32⟩
  | .hbm, ⟨30, _⟩ => ⟨S2x256x64x1x12x128, .f32⟩
  | .hbm, ⟨31, _⟩ => ⟨S2x256x192x1x12x128, .f32⟩
  | .hbm, ⟨32, _⟩ => ⟨S2x256x1x12x64x192, .f32⟩
  | .hbm, ⟨33, _⟩ => ⟨S256, .i32⟩
  | .hbm, ⟨34, _⟩ => ⟨S256x1, .i32⟩
  | .hbm, ⟨35, _⟩ => ⟨S_, .i32⟩
  | .hbm, ⟨36, _⟩ => ⟨S256x1, .i32⟩
  | .hbm, ⟨37, _⟩ => ⟨S256x1, .i32⟩
  | .hbm, ⟨38, _⟩ => ⟨S64, .i32⟩
  | .hbm, ⟨39, _⟩ => ⟨S1x64, .i32⟩
  | .hbm, ⟨40, _⟩ => ⟨S256x64, .i32⟩
  | .hbm, ⟨41, _⟩ => ⟨S256x64, .i32⟩
  | .hbm, ⟨42, _⟩ => ⟨S256x64, .i32⟩
  | .hbm, ⟨43, _⟩ => ⟨S256, .i32⟩
  | .hbm, ⟨44, _⟩ => ⟨S256x1, .i32⟩
  | .hbm, ⟨45, _⟩ => ⟨S_, .i32⟩
  | .hbm, ⟨46, _⟩ => ⟨S256x1, .i32⟩
  | .hbm, ⟨47, _⟩ => ⟨S256x1, .i32⟩
  | .hbm, ⟨48, _⟩ => ⟨S_, .i32⟩
  | .hbm, ⟨49, _⟩ => ⟨S256x1, .i32⟩
  | .hbm, ⟨50, _⟩ => ⟨S256x1, .i32⟩
  | .hbm, ⟨51, _⟩ => ⟨S192, .i32⟩
  | .hbm, ⟨52, _⟩ => ⟨S1x192, .i32⟩
  | .hbm, ⟨53, _⟩ => ⟨S256x192, .i32⟩
  | .hbm, ⟨54, _⟩ => ⟨S256x192, .i32⟩
  | .hbm, ⟨55, _⟩ => ⟨S256x192, .i32⟩
  | .hbm, ⟨56, _⟩ => ⟨S256x1x192, .i32⟩
  | .hbm, ⟨57, _⟩ => ⟨S256x64x1, .i32⟩
  | .hbm, ⟨58, _⟩ => ⟨S256x64x192, .i32⟩
  | .hbm, ⟨59, _⟩ => ⟨S256x64x192, .i32⟩
  | .hbm, ⟨60, _⟩ => ⟨S256x64x192, .i32⟩
  | .hbm, ⟨61, _⟩ => ⟨S256x64x192, .i32⟩
  | .hbm, ⟨62, _⟩ => ⟨S_, .i32⟩
  | .hbm, ⟨63, _⟩ => ⟨S256x64x192, .i32⟩
  | .hbm, ⟨64, _⟩ => ⟨S256x64x192, .i1⟩
  | .hbm, ⟨65, _⟩ => ⟨S256x1x192, .i32⟩
  | .hbm, ⟨66, _⟩ => ⟨S_, .i32⟩
  | .hbm, ⟨67, _⟩ => ⟨S256x1x192, .i32⟩
  | .hbm, ⟨68, _⟩ => ⟨S256x1x192, .i1⟩
  | .hbm, ⟨69, _⟩ => ⟨S256x64x192, .i1⟩
  | .hbm, ⟨70, _⟩ => ⟨S256x64x192, .i1⟩
  | .hbm, ⟨71, _⟩ => ⟨S256x1x192, .i32⟩
  | .hbm, ⟨72, _⟩ => ⟨S_, .i32⟩
  | .hbm, ⟨73, _⟩ => ⟨S256x1x192, .i32⟩
  | .hbm, ⟨74, _⟩ => ⟨S256x1x192, .i1⟩
  | .hbm, ⟨75, _⟩ => ⟨S256x64x192, .i1⟩
  | .hbm, ⟨76, _⟩ => ⟨S256x64x192, .i1⟩
  | .hbm, ⟨77, _⟩ => ⟨S1x256x1x1x64x192, .i1⟩
  | .hbm, ⟨78, _⟩ => ⟨S_, .f32⟩
  | .hbm, ⟨79, _⟩ => ⟨S_, .f32⟩
  | .hbm, ⟨80, _⟩ => ⟨S2x256x1x12x64x192, .i1⟩
  | .hbm, ⟨81, _⟩ => ⟨S2x256x1x12x64x192, .f32⟩
  | .hbm, ⟨82, _⟩ => ⟨S2x256x1x12x64x192, .f32⟩
  | .hbm, ⟨83, _⟩ => ⟨S_, .f32⟩
  | .hbm, ⟨84, _⟩ => ⟨S2x256x1x12x64, .f32⟩
  | .hbm, ⟨85, _⟩ => ⟨S2x256x1x12x64x1, .f32⟩
  | .hbm, ⟨86, _⟩ => ⟨S2x256x1x12x64x192, .f32⟩
  | .hbm, ⟨87, _⟩ => ⟨S2x256x1x12x64x192, .f32⟩
  | .hbm, ⟨88, _⟩ => ⟨S2x256x1x12x64x192, .f32⟩
  | .hbm, ⟨89, _⟩ => ⟨S_, .f32⟩
  | .hbm, ⟨90, _⟩ => ⟨S2x256x1x12x64, .f32⟩
  | .hbm, ⟨91, _⟩ => ⟨S2x256x64x1x12, .f32⟩
  | .hbm, ⟨92, _⟩ => ⟨S2x256x64x1x12, .f32⟩
  | .hbm, ⟨93, _⟩ => ⟨S2x256x1x12x128x64, .f32⟩
  | .hbm, ⟨94, _⟩ => ⟨S2x256x64x1x12x128, .f32⟩
  | .hbm, ⟨95, _⟩ => ⟨S2x256x64x1x12x1, .f32⟩
  | .hbm, ⟨96, _⟩ => ⟨S2x256x64x1x12x128, .f32⟩
  | .hbm, ⟨97, _⟩ => ⟨S2x256x64x1x12x128, .f32⟩
  | .hbm, ⟨98, _⟩ => ⟨S2x16384x1x12x128, .f32⟩
  | .hbm, ⟨99, _⟩ => ⟨S2x16384x12x128, .f32⟩
  | .hbm, ⟨100, _⟩ => ⟨S2x16384x1x12, .f32⟩
  | .hbm, ⟨101, _⟩ => ⟨S2x16384x12, .f32⟩
  | .hbm, ⟨102, _⟩ => ⟨S2x16384x1x12, .f32⟩
  | .hbm, ⟨103, _⟩ => ⟨S2x16384x12, .f32⟩
  | .hbm, ⟨104, _⟩ => ⟨S2x16384x12, .f32⟩
  | .hbm, ⟨105, _⟩ => ⟨S2x16384x12, .f32⟩
  | .hbm, ⟨106, _⟩ => ⟨S_, .i32⟩
  | .hbm, ⟨107, _⟩ => ⟨S_, .f32⟩
  | .hbm, ⟨108, _⟩ => ⟨S2x16384x128, .f32⟩
  | .hbm, ⟨109, _⟩ => ⟨S2x16384x1536, .f32⟩
  | .hbm, ⟨110, _⟩ => ⟨S2x16384x1536, .bf16⟩
  | _, _ => ⟨S2x16384x12x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_call1_v0 : Ref sig .tc := ⟨.hbm, 10, rfl⟩
abbrev main_v4 : Ref sig .tc := ⟨.hbm, 11, rfl⟩
abbrev main_v5 : Ref sig .tc := ⟨.hbm, 12, rfl⟩
abbrev main_c_1 : Ref sig .tc := ⟨.hbm, 13, rfl⟩
abbrev main_call2_v0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c_2 : Ref sig .tc := ⟨.hbm, 21, rfl⟩
abbrev main_call3_v0 : Ref sig .tc := ⟨.hbm, 22, rfl⟩
abbrev main_v12 : Ref sig .tc := ⟨.hbm, 23, rfl⟩
abbrev main_v13 : Ref sig .tc := ⟨.hbm, 24, rfl⟩
abbrev main_c_3 : Ref sig .tc := ⟨.hbm, 25, rfl⟩
abbrev main_call4_v0 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_5 : Ref sig .tc := ⟨.hbm, 45, rfl⟩
abbrev main_v31 : Ref sig .tc := ⟨.hbm, 46, rfl⟩
abbrev main_v32 : Ref sig .tc := ⟨.hbm, 47, rfl⟩
abbrev main_c_6 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_c_7 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_c_8 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_c_9 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_cst : Ref sig .tc := ⟨.hbm, 78, rfl⟩
abbrev main_call5_v0 : Ref sig .tc := ⟨.hbm, 79, rfl⟩
abbrev main_call5_v1 : Ref sig .tc := ⟨.hbm, 80, rfl⟩
abbrev main_call5_v2 : Ref sig .tc := ⟨.hbm, 81, rfl⟩
abbrev main_v59 : Ref sig .tc := ⟨.hbm, 82, rfl⟩
abbrev main_cst_10 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_cst_11 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_c_12 : Ref sig .tc := ⟨.hbm, 106, rfl⟩
abbrev main_call6_v0 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩

abbrev nD : Nat := 1
abbrev τ : Topo := Topo.v7x

variable {F : FTy → Type} [FloatOps F]
-- ==== Kernel2.lean ====
abbrev S2x16384x2048 : Shape := ⟨3, ![2, 16384, 2048]⟩
abbrev S2048 : Shape := ⟨1, ![2048]⟩
abbrev S2048x6176 : Shape := ⟨2, ![2048, 6176]⟩
abbrev S32768x2048 : Shape := ⟨2, ![32768, 2048]⟩
abbrev S1x2048 : Shape := ⟨2, ![1, 2048]⟩
abbrev S2048x256 : Shape := ⟨2, ![2048, 256]⟩
abbrev S2048x512 : Shape := ⟨2, ![2048, 512]⟩
abbrev S2048x16 : Shape := ⟨2, ![2048, 16]⟩
abbrev S2048x1536 : Shape := ⟨2, ![2048, 1536]⟩
abbrev S_ : Shape := ⟨0, ![]⟩
abbrev S2048x224 : Shape := ⟨2, ![2048, 224]⟩
abbrev S2048x6400 : Shape := ⟨2, ![2048, 6400]⟩
abbrev S32768x6400 : Shape := ⟨2, ![32768, 6400]⟩
abbrev S1024x2048 : Shape := ⟨2, ![1024, 2048]⟩
abbrev S2048x1280 : Shape := ⟨2, ![2048, 1280]⟩
abbrev S1024x1280 : Shape := ⟨2, ![1024, 1280]⟩
abbrev S1024 : Shape := ⟨1, ![1024]⟩
abbrev S1024x1 : Shape := ⟨2, ![1024, 1]⟩

abbrev nBuf : Space → Nat
  | .hbm => 19
  | .vmem => 8
  | .smem => 0
  | _ => 0

abbrev bufTy : (tb : Table) → Fin (tcTables nBuf tb) → BufTy
  | .hbm, ⟨0, _⟩ => ⟨S2x16384x2048, .f32⟩
  | .hbm, ⟨1, _⟩ => ⟨S2048, .f32⟩
  | .hbm, ⟨2, _⟩ => ⟨S2048x6176, .f32⟩
  | .hbm, ⟨3, _⟩ => ⟨S32768x2048, .f32⟩
  | .hbm, ⟨4, _⟩ => ⟨S1x2048, .f32⟩
  | .hbm, ⟨5, _⟩ => ⟨S2048x256, .f32⟩
  | .hbm, ⟨6, _⟩ => ⟨S2048x256, .f32⟩
  | .hbm, ⟨7, _⟩ => ⟨S2048x512, .f32⟩
  | .hbm, ⟨8, _⟩ => ⟨S2048x16, .f32⟩
  | .hbm, ⟨9, _⟩ => ⟨S2048x16, .f32⟩
  | .hbm, ⟨10, _⟩ => ⟨S2048x512, .f32⟩
  | .hbm, ⟨11, _⟩ => ⟨S2048x1536, .f32⟩
  | .hbm, ⟨12, _⟩ => ⟨S2048x1536, .f32⟩
  | .hbm, ⟨13, _⟩ => ⟨S2048x1536, .f32⟩
  | .hbm, ⟨14, _⟩ => ⟨S_, .f32⟩
  | .hbm, ⟨15, _⟩ => ⟨S2048x224, .f32⟩
  | .hbm, ⟨16, _⟩ => ⟨S2048x6400, .f32⟩
  | .hbm, ⟨17, _⟩ => ⟨S2048x6400, .bf16⟩
  | .hbm, ⟨18, _⟩ => ⟨S32768x6400, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1280, .bf16⟩
  | .local _ .vmem, ⟨4, _⟩ => ⟨S2048x1280, .bf16⟩
  | .local _ .vmem, ⟨5, _⟩ => ⟨S1024x1280, .bf16⟩
  | .local _ .vmem, ⟨6, _⟩ => ⟨S1024x1280, .bf16⟩
  | .local _ .vmem, ⟨7, _⟩ => ⟨S1024x2048, .bf16⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![32, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1280 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S2x16384x2048 : Shape := ⟨3, ![2, 16384, 2048]⟩
abbrev S2048 : Shape := ⟨1, ![2048]⟩
abbrev S2048x6176 : Shape := ⟨2, ![2048, 6176]⟩
abbrev S_ : Shape := ⟨0, ![]⟩
abbrev S2x16384 : Shape := ⟨2, ![2, 16384]⟩
abbrev S2x16384x1 : Shape := ⟨3, ![2, 16384, 1]⟩
abbrev S1x1x2048 : Shape := ⟨3, ![1, 1, 2048]⟩
abbrev S2x16384x6176 : Shape := ⟨3, ![2, 16384, 6176]⟩
abbrev S2x16384x256 : Shape := ⟨3, ![2, 16384, 256]⟩
abbrev S2x16384x512 : Shape := ⟨3, ![2, 16384, 512]⟩
abbrev S2x16384x16 : Shape := ⟨3, ![2, 16384, 16]⟩
abbrev S2x16384x1536 : Shape := ⟨3, ![2, 16384, 1536]⟩
abbrev S32768x6176 : Shape := ⟨2, ![32768, 6176]⟩
abbrev S32768x6400 : Shape := ⟨2, ![32768, 6400]⟩

abbrev nBuf : Space → Nat
  | .hbm => 35
  | .vmem => 0
  | .smem => 0
  | _ => 0

abbrev bufTy : (tb : Table) → Fin (tcTables nBuf tb) → BufTy
  | .hbm, ⟨0, _⟩ => ⟨S2x16384x2048, .f32⟩
  | .hbm, ⟨1, _⟩ => ⟨S2048, .f32⟩
  | .hbm, ⟨2, _⟩ => ⟨S2048x6176, .f32⟩
  | .hbm, ⟨3, _⟩ => ⟨S2x16384x2048, .f32⟩
  | .hbm, ⟨4, _⟩ => ⟨S_, .f32⟩
  | .hbm, ⟨5, _⟩ => ⟨S2x16384, .f32⟩
  | .hbm, ⟨6, _⟩ => ⟨S2x16384x1, .f32⟩
  | .hbm, ⟨7, _⟩ => ⟨S_, .f32⟩
  | .hbm, ⟨8, _⟩ => ⟨S2x16384x1, .f32⟩
  | .hbm, ⟨9, _⟩ => ⟨S2x16384x1, .f32⟩
  | .hbm, ⟨10, _⟩ => ⟨S_, .f32⟩
  | .hbm, ⟨11, _⟩ => ⟨S2x16384x1, .f32⟩
  | .hbm, ⟨12, _⟩ => ⟨S2x16384x1, .f32⟩
  | .hbm, ⟨13, _⟩ => ⟨S2x16384x1, .f32⟩
  | .hbm, ⟨14, _⟩ => ⟨S2x16384x2048, .f32⟩
  | .hbm, ⟨15, _⟩ => ⟨S2x16384x2048, .f32⟩
  | .hbm, ⟨16, _⟩ => ⟨S1x1x2048, .f32⟩
  | .hbm, ⟨17, _⟩ => ⟨S2x16384x2048, .f32⟩
  | .hbm, ⟨18, _⟩ => ⟨S2x16384x2048, .f32⟩
  | .hbm, ⟨19, _⟩ => ⟨S2x16384x6176, .f32⟩
  | .hbm, ⟨20, _⟩ => ⟨S2x16384x256, .f32⟩
  | .hbm, ⟨21, _⟩ => ⟨S2x16384x256, .f32⟩
  | .hbm, ⟨22, _⟩ => ⟨S2x16384x512, .f32⟩
  | .hbm, ⟨23, _⟩ => ⟨S2x16384x16, .f32⟩
  | .hbm, ⟨24, _⟩ => ⟨S2x16384x16, .f32⟩
  | .hbm, ⟨25, _⟩ => ⟨S2x16384x512, .f32⟩
  | .hbm, ⟨26, _⟩ => ⟨S2x16384x1536, .f32⟩
  | .hbm, ⟨27, _⟩ => ⟨S2x16384x1536, .f32⟩
  | .hbm, ⟨28, _⟩ => ⟨S2x16384x1536, .f32⟩
  | .hbm, ⟨29, _⟩ => ⟨S2x16384x6176, .f32⟩
  | .hbm, ⟨30, _⟩ => ⟨S32768x6176, .f32⟩
  | .hbm, ⟨31, _⟩ => ⟨S_, .i32⟩
  | .hbm, ⟨32, _⟩ => ⟨S_, .f32⟩
  | .hbm, ⟨33, _⟩ => ⟨S32768x6400, .f32⟩
  | .hbm, ⟨34, _⟩ => ⟨S32768x6400, .bf16⟩
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_c : Ref sig .tc := ⟨.hbm, 31, rfl⟩
abbrev main_call0_v0 : Ref sig .tc := ⟨.hbm, 32, rfl⟩
abbrev main_v25 : Ref sig .tc := ⟨.hbm, 33, rfl⟩
abbrev main_v26 : Ref sig .tc := ⟨.hbm, 34, rfl⟩

abbrev nD : Nat := 1
abbrev τ : Topo := Topo.v7x

variable {F : FTy → Type} [FloatOps F]
-- ==== Kernel3.lean ====
abbrev S2x16384x2048 : Shape := ⟨3, ![2, 16384, 2048]⟩
abbrev S2048x2048 : Shape := ⟨2, ![2048, 2048]⟩
abbrev S2048 : Shape := ⟨1, ![2048]⟩
abbrev S32768x2048 : Shape := ⟨2, ![32768, 2048]⟩
abbrev S1x2048 : Shape := ⟨2, ![1, 2048]⟩
abbrev S2048x32768 : Shape := ⟨2, ![2048, 32768]⟩
abbrev S512x2048 : Shape := ⟨2, ![512, 2048]⟩
abbrev S2048x512 : Shape := ⟨2, ![2048, 512]⟩
abbrev S512 : Shape := ⟨1, ![512]⟩
abbrev S512x1 : Shape := ⟨2, ![512, 1]⟩

abbrev nBuf : Space → Nat
  | .hbm => 11
  | .vmem => 10
  | .smem => 0
  | _ => 0

abbrev bufTy : (tb : Table) → Fin (tcTables nBuf tb) → BufTy
  | .hbm, ⟨0, _⟩ => ⟨S2x16384x2048, .f32⟩
  | .hbm, ⟨1, _⟩ => ⟨S2048x2048, .f32⟩
  | .hbm, ⟨2, _⟩ => ⟨S2x16384x2048, .f32⟩
  | .hbm, ⟨3, _⟩ => ⟨S2048, .f32⟩
  | .hbm, ⟨4, _⟩ => ⟨S32768x2048, .f32⟩
  | .hbm, ⟨5, _⟩ => ⟨S32768x2048, .f32⟩
  | .hbm, ⟨6, _⟩ => ⟨S32768x2048, .bf16⟩
  | .hbm, ⟨7, _⟩ => ⟨S2048x2048, .bf16⟩
  | .hbm, ⟨8, _⟩ => ⟨S1x2048, .f32⟩
  | .hbm, ⟨9, _⟩ => ⟨S32768x2048, .f32⟩
  | .hbm, ⟨10, _⟩ => ⟨S2048x32768, .bf16⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | .local _ .vmem, ⟨8, _⟩ => ⟨S2048x512, .bf16⟩
  | .local _ .vmem, ⟨9, _⟩ => ⟨S2048x512, .bf16⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference3Ideal.lean ====
abbrev S2x16384x2048 : Shape := ⟨3, ![2, 16384, 2048]⟩
abbrev S2048x2048 : Shape := ⟨2, ![2048, 2048]⟩
abbrev S2048 : Shape := ⟨1, ![2048]⟩
abbrev S_ : Shape := ⟨0, ![]⟩
abbrev S2x16384 : Shape := ⟨2, ![2, 16384]⟩
abbrev S2x16384x1 : Shape := ⟨3, ![2, 16384, 1]⟩
abbrev S1x1x2048 : Shape := ⟨3, ![1, 1, 2048]⟩
abbrev S32768x2048 : Shape := ⟨2, ![32768, 2048]⟩
abbrev S2048x32768 : Shape := ⟨2, ![2048, 32768]⟩

abbrev nBuf : Space → Nat
  | .hbm => 26
  | .vmem => 0
  | .smem => 0
  | _ => 0

abbrev bufTy : (tb : Table) → Fin (tcTables nBuf tb) → BufTy
  | .hbm, ⟨0, _⟩ => ⟨S2x16384x2048, .f32⟩
  | .hbm, ⟨1, _⟩ => ⟨S2048x2048, .f32⟩
  | .hbm, ⟨2, _⟩ => ⟨S2x16384x2048, .f32⟩
  | .hbm, ⟨3, _⟩ => ⟨S2048, .f32⟩
  | .hbm, ⟨4, _⟩ => ⟨S2x16384x2048, .f32⟩
  | .hbm, ⟨5, _⟩ => ⟨S2x16384x2048, .f32⟩
  | .hbm, ⟨6, _⟩ => ⟨S2x16384x2048, .f32⟩
  | .hbm, ⟨7, _⟩ => ⟨S_, .f32⟩
  | .hbm, ⟨8, _⟩ => ⟨S2x16384, .f32⟩
  | .hbm, ⟨9, _⟩ => ⟨S2x16384x1, .f32⟩
  | .hbm, ⟨10, _⟩ => ⟨S_, .f32⟩
  | .hbm, ⟨11, _⟩ => ⟨S2x16384x1, .f32⟩
  | .hbm, ⟨12, _⟩ => ⟨S2x16384x1, .f32⟩
  | .hbm, ⟨13, _⟩ => ⟨S_, .f32⟩
  | .hbm, ⟨14, _⟩ => ⟨S2x16384x1, .f32⟩
  | .hbm, ⟨15, _⟩ => ⟨S2x16384x1, .f32⟩
  | .hbm, ⟨16, _⟩ => ⟨S2x16384x1, .f32⟩
  | .hbm, ⟨17, _⟩ => ⟨S2x16384x2048, .f32⟩
  | .hbm, ⟨18, _⟩ => ⟨S2x16384x2048, .f32⟩
  | .hbm, ⟨19, _⟩ => ⟨S1x1x2048, .f32⟩
  | .hbm, ⟨20, _⟩ => ⟨S2x16384x2048, .f32⟩
  | .hbm, ⟨21, _⟩ => ⟨S2x16384x2048, .f32⟩
  | .hbm, ⟨22, _⟩ => ⟨S32768x2048, .f32⟩
  | .hbm, ⟨23, _⟩ => ⟨S32768x2048, .f32⟩
  | .hbm, ⟨24, _⟩ => ⟨S2048x32768, .f32⟩
  | .hbm, ⟨25, _⟩ => ⟨S2048x32768, .bf16⟩
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== Proof.Window.lean ====
/- Banded softmax rows over the extended reals: a row of a wide window that is masked to −∞ off a band of 129
   entries has the maximum, the denominator and the weighted sum of the band alone. No program is mentioned here. -/
module

public import Idealize.ShloMosaic.Lib.Pipeline.ValueKit
public import Idealize.ShloMosaic.Lib.Pointwise

@[expose] public section

noncomputable section

open Idealize.ShloMosaic

namespace Cert.Window

/-- Nothing subtracted from −∞ changes it. -/
theorem bot_sub (x : EReal) : (⊥ : EReal) - x = ⊥ := by
  rw [sub_eq_add_neg, EReal.bot_add]

/-- The largest of the scores of a row. -/
def rowMax {n : ℕ} (f : Fin n → EReal) : EReal := Finset.univ.fold max ⊥ f

/-- The unnormalised softmax weight of one entry of a row. -/
def rowW {n : ℕ} (f : Fin n → EReal) (j : Fin n) : EReal := Ideal.exp (f j - rowMax f)

/-- The softmax denominator of a row. -/
def rowDen {n : ℕ} (f : Fin n → EReal) : EReal := ∑ j, rowW f j

/-- One lane of the attention's output row: the weighted sum of the values over the denominator. -/
def rowOut {n : ℕ} (f v : Fin n → EReal) : EReal := Ideal.div (∑ j, rowW f j * v j) (rowDen f)

/-- The logarithm of the sum of the exponentials of a row. -/
def rowLse {n : ℕ} (f : Fin n → EReal) : EReal := rowMax f + Ideal.log (rowDen f)

/-- `s` is `f` on the band that starts at `off`, and −∞ elsewhere. -/
structure Banded {n N : ℕ} (off : ℕ) (hN : off + n ≤ N) (s : Fin N → EReal) (f : Fin n → EReal) : Prop where
  inside : ∀ j : Fin n, s ⟨off + j.val, by omega⟩ = f j
  outside : ∀ c : Fin N, (c.val < off ∨ off + n ≤ c.val) → s c = ⊥

/-- A sum over the wide window of terms that vanish off the band is the sum over the band. -/
theorem sum_band {n N off : ℕ} (hN : off + n ≤ N) (G : Fin N → EReal)
    (h0 : ∀ c : Fin N, (c.val < off ∨ off + n ≤ c.val) → G c = 0) :
    ∑ c, G c = ∑ j : Fin n, G ⟨off + j.val, by omega⟩ := by
  let e : Fin n ↪ Fin N := ⟨fun j => ⟨off + j.val, by omega⟩, fun a b hab => by
    have := congrArg Fin.val hab
    simp only at this
    exact Fin.ext (by omega)⟩
  have hm := Finset.sum_map (Finset.univ : Finset (Fin n)) e G
  refine Eq.trans ?_ hm
  refine (Finset.sum_subset (Finset.subset_univ _) fun c _ hc => h0 c ?_).symm
  by_contra hcon
  apply hc
  rw [Finset.mem_map]
  exact ⟨⟨c.val - off, by omega⟩, Finset.mem_univ _, Fin.ext (by show off + (c.val - off) = c.val; omega)⟩

/-- A maximum taken over the two halves of a row together is the maximum of the row. -/
theorem fold_halves (s : Fin 256 → EReal) :
    Finset.univ.fold max ⊥ (fun c : Fin 128 => max (s ⟨c.val, by omega⟩) (s ⟨128 + c.val, by omega⟩)) = rowMax s := by
  show Finset.univ.sup _ = Finset.univ.sup _
  apply le_antisymm
  · refine Finset.sup_le fun c _ => max_le ?_ ?_ <;> exact Finset.le_sup (f := s) (Finset.mem_univ _)
  · refine Finset.sup_le fun c _ => ?_
    by_cases hc : c.val < 128
    · exact le_trans (le_max_left (s c) _)
        (Finset.le_sup (f := fun c : Fin 128 => max (s ⟨c.val, by omega⟩) (s ⟨128 + c.val, by omega⟩)) (Finset.mem_univ (⟨c.val, hc⟩ : Fin 128)))
    · have hc' : c = ⟨128 + (c.val - 128), by omega⟩ := Fin.ext (by simp only; omega)
      refine le_trans (le_of_eq ?_) (le_trans (le_max_right _ _)
        (Finset.le_sup (f := fun c : Fin 128 => max (s ⟨c.val, by omega⟩) (s ⟨128 + c.val, by omega⟩)) (Finset.mem_univ (⟨c.val - 128, by omega⟩ : Fin 128))))
      exact congrArg s hc'

/-- A sum taken over the two halves of a row together is the sum of the row. -/
theorem sum_halves (w : Fin 256 → EReal) :
    ∑ c : Fin 128, (w ⟨c.val, by omega⟩ + w ⟨128 + c.val, by omega⟩) = ∑ c, w c := by
  rw [Finset.sum_add_distrib, Fin.sum_univ_two_halves 128 128 rfl w]

variable {n N off : ℕ} {hN : off + n ≤ N} {s : Fin N → EReal} {f : Fin n → EReal}

/-- The fold of the maximum is the supremum. -/
theorem rowMax_eq_sup (f : Fin n → EReal) : rowMax f = Finset.univ.sup f := rfl

/-- The masked row has the band's maximum. -/
theorem Banded.rowMax (h : Banded off hN s f) : rowMax s = rowMax f := by
  rw [rowMax_eq_sup, rowMax_eq_sup]
  apply le_antisymm
  · refine Finset.sup_le fun c _ => ?_
    by_cases hc : c.val < off ∨ off + n ≤ c.val
    · rw [h.outside c hc]; exact bot_le
    · have e : c = ⟨off + (⟨c.val - off, by omega⟩ : Fin n).val, by simp only; omega⟩ := Fin.ext (by simp only; omega)
      rw [e, h.inside]
      exact Finset.le_sup (f := f) (Finset.mem_univ _)
  · refine Finset.sup_le fun j _ => ?_
    rw [← h.inside j]
    exact Finset.le_sup (f := s) (Finset.mem_univ _)

/-- Inside the band the weights are the band's. -/
theorem Banded.rowW_inside (h : Banded off hN s f) (j : Fin n) : rowW s ⟨off + j.val, by omega⟩ = rowW f j := by
  unfold rowW; rw [h.rowMax, h.inside]

/-- Off the band the weights are zero. -/
theorem Banded.rowW_outside (h : Banded off hN s f) (c : Fin N) (hc : c.val < off ∨ off + n ≤ c.val) : rowW s c = 0 := by
  unfold rowW; rw [h.outside c hc, bot_sub, Ideal.exp_bot]

/-- The masked row has the band's denominator. -/
theorem Banded.rowDen (h : Banded off hN s f) : rowDen s = rowDen f := by
  unfold Window.rowDen
  refine (sum_band hN _ h.rowW_outside).trans ?_
  exact Finset.sum_congr rfl fun j _ => h.rowW_inside j

/-- A score of −∞ has weight zero. -/
theorem rowW_bot {j : Fin n} (hj : f j = ⊥) : rowW f j = 0 := by
  unfold rowW; rw [hj, bot_sub, Ideal.exp_bot]

/-- The masked row has the band's output, whatever the values are where the score is −∞. -/
theorem Banded.rowOut (h : Banded off hN s f) (u : Fin N → EReal) (v : Fin n → EReal)
    (huv : ∀ j : Fin n, f j = ⊥ ∨ u ⟨off + j.val, by omega⟩ = v j) : rowOut s u = rowOut f v := by
  unfold Window.rowOut
  rw [h.rowDen]
  refine congrArg (Ideal.div · _) ?_
  refine (sum_band hN _ fun c hc => by rw [h.rowW_outside c hc, zero_mul]).trans ?_
  refine Finset.sum_congr rfl fun j _ => ?_
  rw [h.rowW_inside]
  rcases huv j with hj | hj
  · rw [rowW_bot hj, zero_mul, zero_mul]
  · rw [hj]

/-- The masked row has the band's log-sum-exp. -/
theorem Banded.rowLse (h : Banded off hN s f) : rowLse s = rowLse f := by
  unfold Window.rowLse; rw [h.rowMax, h.rowDen]

end Cert.Window

end
-- ==== Proof.Spec.lean ====
/- Banded attention within the residue classes of a dilation, as a function of the arrays of queries, keys and values. -/
module

public import proofs.«01_k».proof.Proof.Window

@[expose] public section

noncomputable section

open Idealize.ShloMosaic

namespace Cert.Spec

open Cert.Window

/-- The arrays of queries, keys and values: batch, position, head, lane. -/
abbrev Arr := FVec Ideal ⟨4, ![2, 16384, 12, 128]⟩ .f32

/-- The sequence position of entry `p` of the residue class `r`. -/
def pos (d p r : ℕ) : Fin 16384 := ⟨(p * d + r) % 16384, Nat.mod_lt _ (by decide)⟩

/-- Key `j` of query `p`'s band of 129 lies inside the class's `L` entries. -/
def InRange (L p j : ℕ) : Prop := 64 ≤ p + j ∧ p + j < L + 64

instance (L p j : ℕ) : Decidable (InRange L p j) := inferInstanceAs (Decidable (_ ∧ _))

/-- The score of query `p` against key `j` of its band: their product, or −∞ where there is no such key. -/
def score (d L : ℕ) (Q K : Arr) (b : Fin 2) (h : Fin 12) (r p : ℕ) (j : Fin 129) : EReal :=
  if InRange L p j then ∑ e : Fin 128, Q (ix4 b (pos d p r) h e) * K (ix4 b (pos d (p + j - 64) r) h e) else ⊥

/-- Lane `e` of the value at key `j` of query `p`'s band. -/
def value (d : ℕ) (V : Arr) (b : Fin 2) (h : Fin 12) (r p : ℕ) (e : Fin 128) (j : Fin 129) : EReal :=
  V (ix4 b (pos d (p + j - 64) r) h e)

/-- The attention's output. -/
def attnO (d L : ℕ) (Q K V : Arr) (b : Fin 2) (h : Fin 12) (r p : ℕ) (e : Fin 128) : EReal :=
  rowOut (score d L Q K b h r p) (value d V b h r p e)

/-- The attention's log-sum-exp. -/
def attnL (d L : ℕ) (Q K : Arr) (b : Fin 2) (h : Fin 12) (r p : ℕ) : EReal :=
  rowLse (score d L Q K b h r p)

/-- The log-sum-exps on a row of 128 lanes: one lane per head, zero after the last. -/
def attnLanes (d L : ℕ) (Q K : Arr) (b : Fin 2) (l : Fin 128) (r p : ℕ) : EReal :=
  if hl : l.val < 12 then attnL d L Q K b ⟨l.val, hl⟩ r p else 0

/-- The attention's output laid out with the residue classes side by side in a row, twelve heads of 128 lanes each. -/
def attnOut (d L : ℕ) (Q K V : Arr) (b : Fin 2) (p c : ℕ) : EReal :=
  attnO d L Q K V b ⟨c % 1536 / 128, by omega⟩ (c / 1536) p ⟨c % 128, by omega⟩

/-- The log-sum-exps laid out with the residue classes side by side in a row, 128 lanes each. -/
def attnLse (d L : ℕ) (Q K : Arr) (b : Fin 2) (p c : ℕ) : EReal :=
  attnLanes d L Q K b ⟨c % 128, by omega⟩ (c / 128) p

/-- A row of a wide window that holds the scores of the band from `off` on, masked elsewhere. -/
theorem banded {N : ℕ} (d L : ℕ) (Q K : Arr) (b : Fin 2) (h : Fin 12) (r p off : ℕ) (hN : off + 129 ≤ N)
    (s : Fin N → EReal) (q : Fin 128 → EReal) (kw : Fin N → Fin 128 → EReal) (ok : Fin N → Prop) [∀ c, Decidable (ok c)]
    (hs : ∀ c, s c = if ok c then ∑ e, q e * kw c e else ⊥)
    (hok : ∀ c, ok c ↔ (off ≤ c.val ∧ c.val < off + 129 ∧ InRange L p (c.val - off)))
    (hq : ∀ e, q e = Q (ix4 b (pos d p r) h e))
    (hk : ∀ j : Fin 129, InRange L p j → ∀ e, kw ⟨off + j.val, by omega⟩ e = K (ix4 b (pos d (p + j - 64) r) h e)) :
    Banded off hN s (score d L Q K b h r p) where
  inside j := by
    rw [hs]
    unfold score
    have e : ok ⟨off + j.val, by omega⟩ ↔ InRange L p j := by
      rw [hok]
      simp only [Nat.add_sub_cancel_left]
      constructor
      · exact fun hh => hh.2.2
      · exact fun hh => ⟨by omega, by omega, hh⟩
    by_cases hr : InRange L p j
    · rw [if_pos (e.2 hr), if_pos hr]
      exact Finset.sum_congr rfl fun x _ => by rw [hq, hk j hr]
    · rw [if_neg fun hh => hr (e.1 hh), if_neg hr]
  outside c hc := by
    rw [hs, if_neg]
    rw [hok]
    omega

/-- Off the class there is no score. -/
theorem score_bot {d L : ℕ} {Q K : Arr} {b : Fin 2} {h : Fin 12} {r p : ℕ} {j : Fin 129} (hr : ¬ InRange L p j) :
    score d L Q K b h r p j = ⊥ := if_neg hr

end Cert.Spec

end
-- ==== Proof.Words.lean ====
/- Constants, truth values and small machine words. -/
module

public import Idealize.ShloMosaic.Lib.WordCmp
public import proofs.«01_k».proof.Proof.Window

@[expose] public section

noncomputable section

open Idealize.ShloMosaic

namespace Cert.Words

/-- The pattern a maximum starts from denotes −∞. -/
theorem neg_inf : Ideal.ofBits .f32 0xFF800000#32 = (⊥ : EReal) := by
  simp [Ideal.ofBits, Ideal.ieee]

theorem andi_one (a b : BitVec 1) : IntOp.andi a b = 1#1 ↔ a = 1#1 ∧ b = 1#1 := by revert a b; decide
theorem ori_one (a b : BitVec 1) : IntOp.ori a b = 1#1 ↔ a = 1#1 ∨ b = 1#1 := by revert a b; decide

/-- A truth value read back from its bit. -/
theorem ofBool_one (p : Prop) [Decidable p] : BitVec.ofBool (decide p) = 1#1 ↔ p := by
  by_cases h : p <;> simp [h]

/-- The sum of two small words. -/
theorem addi_nat (a b : ℕ) : IntOp.addi (BitVec.ofNat 32 a) (BitVec.ofNat 32 b) = BitVec.ofNat 32 (a + b) := by
  show BitVec.ofNat 32 a + BitVec.ofNat 32 b = _
  rw [BitVec.ofNat_add]

/-- A small integer is read back from its word. -/
theorem toInt_small (z : ℤ) (h : -2147483648 ≤ z ∧ z < 2147483648) : (BitVec.ofInt 32 z).toInt = z := by
  rw [BitVec.toInt_ofInt]
  exact Int.bmod_eq_of_le (by omega) (by omega)

/-- The word of a difference. -/
theorem ofInt_sub (a b : ℤ) : BitVec.ofInt 32 (a - b) = BitVec.ofInt 32 a - BitVec.ofInt 32 b := by
  rw [Int.sub_eq_add_neg, BitVec.ofInt_add, BitVec.ofInt_neg, BitVec.sub_eq_add_neg]

/-- The absolute value of a small integer. -/
theorem absi_small (z : ℤ) (h : -2147483648 < z ∧ z < 2147483648) : IntOp.absi (BitVec.ofInt 32 z) = BitVec.ofInt 32 |z| := by
  unfold IntOp.absi
  rw [BitVec.msb_eq_toInt, toInt_small z (by omega)]
  by_cases hz : z < 0
  · rw [if_pos (by simpa using hz), abs_of_neg hz, BitVec.ofInt_neg]
  · rw [if_neg (by simpa using hz), abs_of_nonneg (by omega)]

/-- Which keys a query sees, in machine words: at block `n` of 64 entries, query `i` of the block and key `t` of the block
    and its two neighbours, when the two lie within 64 entries of each other and the key inside the sequence of `L`. -/
theorem visible (n i t L : ℕ) (hn : n < 1000000) (hi : i < 64) (ht : t < 192) (hL : L < 100000000) :
    IntOp.andi (IntOp.andi
        (IntOp.cmpi .sle (IntOp.absi (IntOp.subi (IntOp.addi (IntOp.subi (IntOp.muli (BitVec.ofNat 32 n) 64#32) 64#32) (BitVec.ofNat 32 t))
          (IntOp.addi (IntOp.muli (BitVec.ofNat 32 n) 64#32) (BitVec.ofNat 32 i)))) 64#32)
        (IntOp.cmpi .sge (IntOp.addi (IntOp.subi (IntOp.muli (BitVec.ofNat 32 n) 64#32) 64#32) (BitVec.ofNat 32 t)) 0#32))
      (IntOp.cmpi .slt (IntOp.addi (IntOp.subi (IntOp.muli (BitVec.ofNat 32 n) 64#32) 64#32) (BitVec.ofNat 32 t)) (BitVec.ofNat 32 L)) = 1#1
      ↔ (i ≤ t ∧ t < i + 129 ∧ 64 ≤ 64 * n + i + (t - i) ∧ 64 * n + i + (t - i) < L + 64) := by
  have e64 : (64#32 : BitVec 32) = BitVec.ofInt 32 64 := rfl
  have e0 : (0#32 : BitVec 32) = BitVec.ofInt 32 0 := rfl
  have hk : IntOp.addi (IntOp.subi (IntOp.muli (BitVec.ofNat 32 n) 64#32) 64#32) (BitVec.ofNat 32 t) = BitVec.ofInt 32 (n * 64 - 64 + t) := by
    show BitVec.ofNat 32 n * 64#32 - 64#32 + BitVec.ofNat 32 t = _
    rw [e64, ← BitVec.ofInt_natCast, ← BitVec.ofInt_natCast, BitVec.ofInt_add, ofInt_sub, BitVec.ofInt_mul]
  have hq : IntOp.addi (IntOp.muli (BitVec.ofNat 32 n) 64#32) (BitVec.ofNat 32 i) = BitVec.ofInt 32 (n * 64 + i) := by
    show BitVec.ofNat 32 n * 64#32 + BitVec.ofNat 32 i = _
    rw [e64, ← BitVec.ofInt_natCast, ← BitVec.ofInt_natCast, BitVec.ofInt_add, BitVec.ofInt_mul]
  have hd : IntOp.subi (BitVec.ofInt 32 (n * 64 - 64 + t)) (BitVec.ofInt 32 (n * 64 + i)) = BitVec.ofInt 32 (t - 64 - i) := by
    show BitVec.ofInt 32 _ - BitVec.ofInt 32 _ = _
    rw [← ofInt_sub]
    congr 1
    ring
  rw [hk, hq, hd, absi_small _ (by omega), e64, e0, ← BitVec.ofInt_natCast (n := L), andi_one, andi_one,
    WordCmp.cmpi_sle_eq, WordCmp.cmpi_sge_eq, WordCmp.cmpi_slt_eq, ofBool_one, ofBool_one, ofBool_one,
    toInt_small _ (by have := abs_le (a := (t : ℤ) - 64 - i) (b := 1000); have := abs_nonneg ((t : ℤ) - 64 - i); omega),
    toInt_small _ (by omega), toInt_small _ (by omega), toInt_small _ (by omega), toInt_small _ (by omega), abs_le]
  omega

end Cert.Words

end
-- ==== Proof.Tile.lean ====
/- One tile of the kernel's body: 128 query rows of one head against a window of 256 key rows, read entry by entry. -/
module

public import proofs.«01_k».proof.Proof.Gen.Kernel16Ideal.Skeleton
public import proofs.«01_k».proof.Proof.Spec
public import proofs.«01_k».proof.Proof.Words

@[expose] public section

set_option maxRecDepth 16384

noncomputable section

open Idealize.ShloMosaic Idealize.ShloMosaic.TcCoe Idealize.SL.Sem

namespace Cert.Tile

open Cert.Kernel16Ideal Cert.Kernel16Ideal.Gen Cert.Window Cert.Spec Cert.Words

/-- The name of the mask denotes −∞. -/
theorem mask_bot : Named.named (F := Ideal) κ "mask" (φ := .f32) 0xF149F2CA#32 = (⊥ : EReal) :=
  IdealRules.named_const.ideal_named_scalar _ _ _ _ rfl

/-- The tile's masked scores. -/
def tS (mk : IVec S128x256 1) (kw : FVec Ideal S256x128 .bf16) (q : FVec Ideal S128x128 .bf16) : FVec Ideal S128x256 .f32 :=
  select mk (matmul dot_S128x128_S256x128_S128x256_1_1_0_0_n_n none q kw (constant S128x256 .f32 0x00000000#32))
    (broadcast S128x256 (Named.named κ "mask" 0xF149F2CA#32))

/-- The tile's row maxima, taken over the two halves of the window together. -/
def tM (mk : IVec S128x256 1) (kw : FVec Ideal S256x128 .bf16) (q : FVec Ideal S128x128 .bf16) : FVec Ideal S128x1 .f32 :=
  shapeCast S128x1 (multiReduction .maximumf [1] S128
    (maximumf (extractStridedSlice S128x128 ![0, 0] (tS mk kw q) slices_S128x256_o0_0_S128x128)
      (extractStridedSlice S128x128 ![0, 128] (tS mk kw q) slices_S128x256_o0_128_S128x128))
    0xFF800000#32 reduces_S128x128_S128 (.inl rfl) rfl) shapeCasts_S128_S128x1

/-- The tile's unnormalised weights. -/
def tP (mk : IVec S128x256 1) (kw : FVec Ideal S256x128 .bf16) (q : FVec Ideal S128x128 .bf16) : FVec Ideal S128x256 .f32 :=
  exp (subf (tS mk kw q) (broadcastTo S128x256 (tM mk kw q) broadcasts_S128x1_S128x256))

/-- The tile's denominators, summed over the two halves of the window together. -/
def tD (mk : IVec S128x256 1) (kw : FVec Ideal S256x128 .bf16) (q : FVec Ideal S128x128 .bf16) : FVec Ideal S128x1 .f32 :=
  shapeCast S128x1 (multiReduction .add [1] S128
    (addf (extractStridedSlice S128x128 ![0, 0] (tP mk kw q) slices_S128x256_o0_0_S128x128)
      (extractStridedSlice S128x128 ![0, 128] (tP mk kw q) slices_S128x256_o0_128_S128x128))
    0x00000000#32 reduces_S128x128_S128 (.inl rfl) rfl) shapeCasts_S128_S128x1

/-- The tile's output rows. -/
def tO (mk : IVec S128x256 1) (kw vw : FVec Ideal S256x128 .bf16) (q : FVec Ideal S128x128 .bf16) : FVec Ideal S128x128 .bf16 :=
  truncf .bf16 (divf (matmul dot_S128x256_S256x128_S128x128_1_0_0_1_n_n none (truncf .bf16 (tP mk kw q) bitsLt_bf16_f32) vw
      (constant S128x128 .f32 0x00000000#32))
    (broadcastTo S128x128 (tD mk kw q) broadcasts_S128x1_S128x128)) bitsLt_bf16_f32

/-- The tile's log-sum-exp column. -/
def tL (mk : IVec S128x256 1) (kw : FVec Ideal S256x128 .bf16) (q : FVec Ideal S128x128 .bf16) : FVec Ideal S128x1 .f32 :=
  addf (tM mk kw q) (log (tD mk kw q))

/-- The row of scores of query row `r`. -/
def srow (mk : IVec S128x256 1) (kw : FVec Ideal S256x128 .bf16) (q : FVec Ideal S128x128 .bf16) (r : Fin 128) (c : Fin 256) : EReal :=
  tS mk kw q (ix2 r c)

theorem tS_at (mk : IVec S128x256 1) (kw : FVec Ideal S256x128 .bf16) (q : FVec Ideal S128x128 .bf16) (r : Fin 128) (c : Fin 256) :
    srow mk kw q r c = if mk (ix2 r c) = 1#1 then ∑ e : Fin 128, q (ix2 r e) * kw (ix2 c e) else ⊥ := by
  unfold srow
  pointwise [tS, mask_bot]
  rfl

theorem tM_at (mk : IVec S128x256 1) (kw : FVec Ideal S256x128 .bf16) (q : FVec Ideal S128x128 .bf16) (r : Fin 128) (z : Fin 1) :
    tM mk kw q (ix2 r z) = rowMax (srow mk kw q r) := by
  rw [← fold_halves]
  unfold srow
  pointwise [tM, neg_inf]

theorem tP_at (mk : IVec S128x256 1) (kw : FVec Ideal S256x128 .bf16) (q : FVec Ideal S128x128 .bf16) (r : Fin 128) (c : Fin 256) :
    tP mk kw q (ix2 r c) = rowW (srow mk kw q r) c := by
  unfold rowW
  pointwise [tP, tM_at]
  rfl

theorem tD_at (mk : IVec S128x256 1) (kw : FVec Ideal S256x128 .bf16) (q : FVec Ideal S128x128 .bf16) (r : Fin 128) (z : Fin 1) :
    tD mk kw q (ix2 r z) = rowDen (srow mk kw q r) := by
  unfold rowDen
  rw [← sum_halves]
  pointwise [tD, tP_at]

theorem tO_at (mk : IVec S128x256 1) (kw vw : FVec Ideal S256x128 .bf16) (q : FVec Ideal S128x128 .bf16) (r e : Fin 128) :
    tO mk kw vw q (ix2 r e) = rowOut (srow mk kw q r) fun c => vw (ix2 c e) := by
  unfold rowOut
  pointwise [tO, tP_at, tD_at]

theorem tL_at (mk : IVec S128x256 1) (kw : FVec Ideal S256x128 .bf16) (q : FVec Ideal S128x128 .bf16) (r : Fin 128) (z : Fin 1) :
    tL mk kw q (ix2 r z) = rowLse (srow mk kw q r) := by
  unfold rowLse
  pointwise [tL, tM_at, tD_at]

/-! ## The tile inside its block of 512 query rows -/

/-- Three blocks stacked: the 64 rows before a block of 512, the block, the 64 rows after it. -/
def cat3 (a : Vec Ideal S1x64x128 .bf16) (b : Vec Ideal S1x512x128 .bf16) (c : Vec Ideal S1x64x128 .bf16) : FVec Ideal S640x128 .bf16 :=
  concatenate S640x128 0 [⟨S64x128, shapeCast S64x128 a shapeCasts_S1x64x128_S64x128⟩,
    ⟨S512x128, shapeCast S512x128 b shapeCasts_S1x512x128_S512x128⟩,
    ⟨S64x128, shapeCast S64x128 c shapeCasts_S1x64x128_S64x128⟩] concatenates_S64x128_S512x128_S64x128_S640x128_d0

/-- What the staged blocks of one grid point hold: rows `512 n …` of residue class `r` of batch `b`, of the queries,
    keys and values, and the 64 rows of keys and values on either side where there are such rows. -/
structure Blocks (d L : ℕ) (Q K V : Arr) (b : Fin 2) (r n : ℕ)
    (x0 x1 : Vec Ideal S1x512x1536 .bf16) (x2 x3 : Vec Ideal S1x64x1536 .bf16) (x4 : Vec Ideal S1x512x1536 .bf16) (x5 x6 : Vec Ideal S1x64x1536 .bf16) : Prop where
  h0 : ∀ (a : Fin 512) (h : Fin 12) (e : Fin 128), x0 (ix3 0 a ⟨128 * h.val + e.val, by omega⟩) = Q (ix4 b (pos d (512 * n + a) r) h e)
  h1 : ∀ (a : Fin 512) (h : Fin 12) (e : Fin 128), x1 (ix3 0 a ⟨128 * h.val + e.val, by omega⟩) = K (ix4 b (pos d (512 * n + a) r) h e)
  h2 : ∀ (a : Fin 64) (h : Fin 12) (e : Fin 128), 0 < n → x2 (ix3 0 a ⟨128 * h.val + e.val, by omega⟩) = K (ix4 b (pos d (512 * n + a - 64) r) h e)
  h3 : ∀ (a : Fin 64) (h : Fin 12) (e : Fin 128), 512 * n + 512 < L → x3 (ix3 0 a ⟨128 * h.val + e.val, by omega⟩) = K (ix4 b (pos d (512 * n + 512 + a) r) h e)
  h4 : ∀ (a : Fin 512) (h : Fin 12) (e : Fin 128), x4 (ix3 0 a ⟨128 * h.val + e.val, by omega⟩) = V (ix4 b (pos d (512 * n + a) r) h e)
  h5 : ∀ (a : Fin 64) (h : Fin 12) (e : Fin 128), 0 < n → x5 (ix3 0 a ⟨128 * h.val + e.val, by omega⟩) = V (ix4 b (pos d (512 * n + a - 64) r) h e)
  h6 : ∀ (a : Fin 64) (h : Fin 12) (e : Fin 128), 512 * n + 512 < L → x6 (ix3 0 a ⟨128 * h.val + e.val, by omega⟩) = V (ix4 b (pos d (512 * n + 512 + a) r) h e)

/-- The mask of the tile at rows `o …` of block `n`: the band, within the class's `L` entries. -/
def MaskOk (L n o : ℕ) (mk : IVec S128x256 1) : Prop :=
  ∀ (r : Fin 128) (c : Fin 256), mk (ix2 r c) = 1#1 ↔ (r.val ≤ c.val ∧ c.val < r.val + 129 ∧ InRange L (512 * n + o + r.val) (c.val - r.val))

/-- The window of 256 rows from row `o` on of a head's stacked keys (or values), read at a row of a query's band. -/
theorem win_at (d L : ℕ) (K : Arr) (b : Fin 2) (r n : ℕ)
    (x1 : Vec Ideal S1x512x1536 .bf16) (x2 x3 : Vec Ideal S1x64x1536 .bf16)
    (h1 : ∀ (a : Fin 512) (h : Fin 12) (e : Fin 128), x1 (ix3 0 a ⟨128 * h.val + e.val, by omega⟩) = K (ix4 b (pos d (512 * n + a) r) h e))
    (h2 : ∀ (a : Fin 64) (h : Fin 12) (e : Fin 128), 0 < n → x2 (ix3 0 a ⟨128 * h.val + e.val, by omega⟩) = K (ix4 b (pos d (512 * n + a - 64) r) h e))
    (h3 : ∀ (a : Fin 64) (h : Fin 12) (e : Fin 128), 512 * n + 512 < L → x3 (ix3 0 a ⟨128 * h.val + e.val, by omega⟩) = K (ix4 b (pos d (512 * n + 512 + a) r) h e))
    (h : Fin 12) (o l : ℕ) (ho : o + 128 ≤ 512) (hl : l = 128 * h.val)
    (i1 : ∀ a, (![0, 0, l] : Fin 3 → ℕ) a + S1x512x128.size a ≤ S1x512x1536.size a)
    (i2 : ∀ a, (![0, 0, l] : Fin 3 → ℕ) a + S1x64x128.size a ≤ S1x64x1536.size a)
    (hs : S640x128.Slices ![o, 0] S256x128)
    (rr : Fin 128) (j : Fin 129) (hj : InRange L (512 * n + o + rr.val) j) (e : Fin 128) :
    extractStridedSlice S256x128 ![o, 0] (cat3 (View.ld x2 (Rect.unit (s := S1x64x1536) ![0, 0, l] S1x64x128.size i2))
      (View.ld x1 (Rect.unit (s := S1x512x1536) ![0, 0, l] S1x512x128.size i1))
      (View.ld x3 (Rect.unit (s := S1x64x1536) ![0, 0, l] S1x64x128.size i2))) hs (ix2 ⟨rr.val + j.val, by omega⟩ e)
      = K (ix4 b (pos d (512 * n + o + rr.val + j - 64) r) h e) := by
  subst hl
  have hj' : 64 ≤ 512 * n + o + rr.val + j ∧ 512 * n + o + rr.val + j < L + 64 := hj
  pointwise [cat3]
  by_cases c1 : o + (rr.val + j.val) < 64
  · rw [dif_pos c1]
    refine (h2 ⟨o + (rr.val + j.val), c1⟩ h e (by omega)).trans ?_
    simp only [Nat.add_assoc]
  · rw [dif_neg c1]
    by_cases c2 : o + (rr.val + j.val) - 64 < 512
    · rw [dif_pos c2]
      refine (h1 ⟨o + (rr.val + j.val) - 64, c2⟩ h e).trans ?_
      have e1 : 512 * n + (o + (rr.val + j.val) - 64) = 512 * n + o + rr.val + j.val - 64 := by omega
      simp only [e1]
    · rw [dif_neg c2]
      refine (h3 ⟨o + (rr.val + j.val) - 64 - 512, by omega⟩ h e (by omega)).trans ?_
      have e1 : 512 * n + 512 + (o + (rr.val + j.val) - 64 - 512) = 512 * n + o + rr.val + j.val - 64 := by omega
      simp only [e1]

/-- A tile without its leading unit axis. -/
theorem drop_at (v : Vec Ideal S1x128x128 .bf16) (rr e : Fin 128) :
    shapeCast S128x128 v shapeCasts_S1x128x128_S128x128 (ix2 rr e) = v (ix3 0 rr e) := by
  pointwise []

/-- The query rows of a tile, read from the staged block. -/
theorem qry_at (x0 : Vec Ideal S1x512x1536 .bf16) (o l : ℕ)
    (i0 : ∀ a, (![0, o, l] : Fin 3 → ℕ) a + S1x128x128.size a ≤ S1x512x1536.size a) (rr e : Fin 128)
    (a : Fin 512) (c : Fin 1536) (ha : a.val = o + rr.val) (hc : c.val = l + e.val) :
    shapeCast S128x128 (View.ld x0 (Rect.unit (s := S1x512x1536) ![0, o, l] S1x128x128.size i0)) shapeCasts_S1x128x128_S128x128 (ix2 rr e)
      = x0 (ix3 0 a c) := by
  refine (drop_at _ rr e).trans ?_
  refine congrArg x0 ?_
  blk_ext
  · show o + 1 * rr.val = a.val
    omega
  · show l + 1 * e.val = c.val
    omega

variable {d L : ℕ} {Q K V : Arr} {b : Fin 2} {r n : ℕ}
  {x0 x1 : Vec Ideal S1x512x1536 .bf16} {x2 x3 : Vec Ideal S1x64x1536 .bf16} {x4 : Vec Ideal S1x512x1536 .bf16} {x5 x6 : Vec Ideal S1x64x1536 .bf16}

/-- A tile's row of scores is the query's band of scores, masked elsewhere in the window. -/
theorem srow_banded (B : Blocks d L Q K V b r n x0 x1 x2 x3 x4 x5 x6) (mk : IVec S128x256 1) (h : Fin 12) (o l : ℕ)
    (hmk : MaskOk L n o mk) (ho : o + 128 ≤ 512) (hl : l = 128 * h.val)
    (i0 : ∀ a, (![0, o, l] : Fin 3 → ℕ) a + S1x128x128.size a ≤ S1x512x1536.size a)
    (i1 : ∀ a, (![0, 0, l] : Fin 3 → ℕ) a + S1x512x128.size a ≤ S1x512x1536.size a)
    (i2 : ∀ a, (![0, 0, l] : Fin 3 → ℕ) a + S1x64x128.size a ≤ S1x64x1536.size a)
    (hs : S640x128.Slices ![o, 0] S256x128) (rr : Fin 128) :
    Banded rr.val (by omega) (srow mk (extractStridedSlice S256x128 ![o, 0]
      (cat3 (View.ld x2 (Rect.unit (s := S1x64x1536) ![0, 0, l] S1x64x128.size i2))
        (View.ld x1 (Rect.unit (s := S1x512x1536) ![0, 0, l] S1x512x128.size i1))
        (View.ld x3 (Rect.unit (s := S1x64x1536) ![0, 0, l] S1x64x128.size i2))) hs)
      (shapeCast S128x128 (View.ld x0 (Rect.unit (s := S1x512x1536) ![0, o, l] S1x128x128.size i0)) shapeCasts_S1x128x128_S128x128) rr)
      (score d L Q K b h r (512 * n + o + rr.val)) := by
  refine banded d L Q K b h r _ rr.val _ _ _ _ _ (tS_at _ _ _ rr) (hmk rr) ?_ ?_
  · intro e
    refine (qry_at x0 o l i0 rr e ⟨o + rr.val, by omega⟩ ⟨128 * h.val + e.val, by omega⟩ rfl (by simp only [hl])).trans ?_
    refine (B.h0 ⟨o + rr.val, by omega⟩ h e).trans ?_
    simp only [Nat.add_assoc]
  · intro j hj e
    exact win_at d L K b r n x1 x2 x3 B.h1 B.h2 B.h3 h o l ho hl i1 i2 hs rr j hj e

/-- The attention's output as a function of the block's index: lanes run over the heads. -/
def blkO (d L : ℕ) (Q K V : Arr) (b : Fin 2) (r n : ℕ) (y : S1x512x1536.Idx) : EReal :=
  attnO d L Q K V b ⟨(y 2).val / 128, by have : (y 2).val < 1536 := (y 2).isLt; omega⟩ r (512 * n + (y 1).val)
    ⟨(y 2).val % 128, Nat.mod_lt _ (by decide)⟩

/-- One stored tile of the output block is the attention there. -/
theorem tile_o (B : Blocks d L Q K V b r n x0 x1 x2 x3 x4 x5 x6) (mk : IVec S128x256 1) (o l : ℕ)
    (hmk : MaskOk L n o mk)
    (i0 : ∀ a, (![0, o, l] : Fin 3 → ℕ) a + S1x128x128.size a ≤ S1x512x1536.size a)
    (i1 : ∀ a, (![0, 0, l] : Fin 3 → ℕ) a + S1x512x128.size a ≤ S1x512x1536.size a)
    (i2 : ∀ a, (![0, 0, l] : Fin 3 → ℕ) a + S1x64x128.size a ≤ S1x64x1536.size a)
    (hs : S640x128.Slices ![o, 0] S256x128) (hl : l % 128 = 0) (x : S1x128x128.Idx) (y : S1x512x1536.Idx)
    (h1 : (y 1).val = o + (x 1).val) (h2 : (y 2).val = l + (x 2).val) :
    shapeCast S1x128x128 (tO mk (extractStridedSlice S256x128 ![o, 0]
      (cat3 (View.ld x2 (Rect.unit (s := S1x64x1536) ![0, 0, l] S1x64x128.size i2))
        (View.ld x1 (Rect.unit (s := S1x512x1536) ![0, 0, l] S1x512x128.size i1))
        (View.ld x3 (Rect.unit (s := S1x64x1536) ![0, 0, l] S1x64x128.size i2))) hs)
      (extractStridedSlice S256x128 ![o, 0]
      (cat3 (View.ld x5 (Rect.unit (s := S1x64x1536) ![0, 0, l] S1x64x128.size i2))
        (View.ld x4 (Rect.unit (s := S1x512x1536) ![0, 0, l] S1x512x128.size i1))
        (View.ld x6 (Rect.unit (s := S1x64x1536) ![0, 0, l] S1x64x128.size i2))) hs)
      (shapeCast S128x128 (View.ld x0 (Rect.unit (s := S1x512x1536) ![0, o, l] S1x128x128.size i0)) shapeCasts_S1x128x128_S128x128))
      shapeCasts_S128x128_S1x128x128 x = blkO d L Q K V b r n y := by
  have ho : o + 128 ≤ 512 := i0 1
  have hl2 : l + 128 ≤ 1536 := i0 2
  have x1l : (x 1).val < 128 := (x 1).isLt
  have x2l : (x 2).val < 128 := (x 2).isLt
  have ey1 : 512 * n + (y 1).val = 512 * n + o + (x 1).val := by omega
  have ey2 : (y 2).val / 128 = l / 128 := by omega
  have ey3 : (y 2).val % 128 = (x 2).val := by omega
  have hlh : l = 128 * (⟨l / 128, by omega⟩ : Fin 12).val := by simp only; omega
  unfold blkO
  simp only [ey1, ey2, ey3]
  have key := (srow_banded B mk ⟨l / 128, by omega⟩ o l hmk ho hlh i0 i1 i2 hs ⟨(x 1).val, x1l⟩).rowOut
    (fun c => extractStridedSlice S256x128 ![o, 0]
      (cat3 (View.ld x5 (Rect.unit (s := S1x64x1536) ![0, 0, l] S1x64x128.size i2))
        (View.ld x4 (Rect.unit (s := S1x512x1536) ![0, 0, l] S1x512x128.size i1))
        (View.ld x6 (Rect.unit (s := S1x64x1536) ![0, 0, l] S1x64x128.size i2))) hs (ix2 c ⟨(x 2).val, x2l⟩))
    (value d V b ⟨l / 128, by omega⟩ r (512 * n + o + (x 1).val) ⟨(x 2).val, x2l⟩) (fun j => by
      by_cases hj : InRange L (512 * n + o + (x 1).val) j
      · exact Or.inr (win_at d L V b r n x4 x5 x6 B.h4 B.h5 B.h6 _ o l ho hlh i1 i2 hs ⟨(x 1).val, x1l⟩ j hj ⟨(x 2).val, x2l⟩)
      · exact Or.inl (score_bot hj))
  refine Eq.trans ?_ key
  rw [← tO_at]
  pointwise []

/-- The block of log-sum-exps as a function of its index. -/
def blkL (d L : ℕ) (Q K : Arr) (b : Fin 2) (r n : ℕ) (y1 : ℕ) (l : Fin 128) : EReal :=
  attnLanes d L Q K b l r (512 * n + y1)

/-- One head's column entered into a tile of log-sum-exps: the head's lane is right, and the others stay right. -/
theorem tile_l (B : Blocks d L Q K V b r n x0 x1 x2 x3 x4 x5 x6) (mk : IVec S128x256 1) (o l w : ℕ)
    (hmk : MaskOk L n o mk)
    (i0 : ∀ a, (![0, o, l] : Fin 3 → ℕ) a + S1x128x128.size a ≤ S1x512x1536.size a)
    (i1 : ∀ a, (![0, 0, l] : Fin 3 → ℕ) a + S1x512x128.size a ≤ S1x512x1536.size a)
    (i2 : ∀ a, (![0, 0, l] : Fin 3 → ℕ) a + S1x64x128.size a ≤ S1x64x1536.size a)
    (hs : S640x128.Slices ![o, 0] S256x128) (hl : l = 128 * w) (rr lane : Fin 128)
    (prev : FVec Ideal S128x128 .f32)
    (hp : lane.val ≠ w → prev (ix2 rr lane) = blkL d L Q K b r n (o + rr.val) lane) :
    select (cmpi .eq (iota .tc S128x128 32 [1] iota_S128x128_d1_w32) (broadcast S128x128 (BitVec.ofNat 32 w)))
      (broadcastTo S128x128 (shapeCast S128x1 (tL mk (extractStridedSlice S256x128 ![o, 0]
        (cat3 (View.ld x2 (Rect.unit (s := S1x64x1536) ![0, 0, l] S1x64x128.size i2))
          (View.ld x1 (Rect.unit (s := S1x512x1536) ![0, 0, l] S1x512x128.size i1))
          (View.ld x3 (Rect.unit (s := S1x64x1536) ![0, 0, l] S1x64x128.size i2))) hs)
        (shapeCast S128x128 (View.ld x0 (Rect.unit (s := S1x512x1536) ![0, o, l] S1x128x128.size i0)) shapeCasts_S1x128x128_S128x128))
        shapeCasts_S128x1_S128x1) broadcasts_S128x1_S128x128) prev (ix2 rr lane) = blkL d L Q K b r n (o + rr.val) lane := by
  have ho : o + 128 ≤ 512 := i0 1
  have hl2 : l + 128 ≤ 1536 := i0 2
  pointwise [tL_at]
  have hw12 : w < 12 := by omega
  by_cases hw : lane.val = w
  · rw [show IntOp.cmpi .eq (BitVec.ofNat 32 lane.val) (BitVec.ofNat 32 w) = 1#1 by rw [hw]; simp [IntOp.cmpi]]
    show rowLse _ = _
    rw [(srow_banded B mk ⟨w, hw12⟩ o l hmk ho hl i0 i1 i2 hs rr).rowLse]
    unfold blkL attnLanes attnL
    rw [dif_pos (by omega)]
    simp only [hw, Nat.add_assoc]
  · rw [show IntOp.cmpi .eq (BitVec.ofNat 32 lane.val) (BitVec.ofNat 32 w) = 0#1 by
      have : BitVec.ofNat 32 lane.val ≠ BitVec.ofNat 32 w := fun hh => hw (by
        have := congrArg BitVec.toNat hh
        simp only [BitVec.toNat_ofNat] at this
        omega)
      show BitVec.ofBool (_ == _) = 0#1
      rw [beq_eq_false_iff_ne.2 this]
      rfl]
    exact hp hw

/-- A tile with a leading unit axis, read at an index. -/
theorem lift_at (v : FVec Ideal S128x128 .f32) (x : S1x128x128.Idx) :
    shapeCast S1x128x128 v shapeCasts_S128x128_S1x128x128 x = v (ix2 ⟨(x 1).val, (x 1).isLt⟩ ⟨(x 2).val, (x 2).isLt⟩) := by
  pointwise []

/-- The lanes after the last head keep the zero they started with. -/
theorem lanes_zero (y1 : ℕ) (lane : Fin 128) (rr : Fin 128) (h : ∀ k : Fin 12, lane.val ≠ k.val) :
    broadcast S128x128 (Scalar.ofBits (F := Ideal) .f32 0x00000000#32) (ix2 rr lane) = blkL d L Q K b r n y1 lane := by
  unfold blkL attnLanes
  rw [dif_neg fun hl => h ⟨lane.val, hl⟩ rfl]
  pointwise []

/-- A block's attention, as a piece of the whole array of outputs. -/
theorem blkO_eq (d L : ℕ) (Q K V : Arr) (b b' : Fin 2) (r n p cc : ℕ) (y : S1x512x1536.Idx) (hb : b.val = b'.val)
    (hp : p = 512 * n + (y 1).val) (hc : cc = r * 1536 + (y 2).val) :
    blkO d L Q K V b r n y = attnOut d L Q K V b' p cc := by
  have h2 : (y 2).val < 1536 := (y 2).isLt
  obtain rfl := Fin.ext hb
  subst hp hc
  unfold blkO attnOut
  have e1 : (r * 1536 + (y 2).val) % 1536 / 128 = (y 2).val / 128 := by omega
  have e2 : (r * 1536 + (y 2).val) / 1536 = r := by omega
  have e3 : (r * 1536 + (y 2).val) % 128 = (y 2).val % 128 := by omega
  simp only [e1, e2, e3]

/-- A block's log-sum-exps, as a piece of the whole array of them. -/
theorem blkL_eq (d L : ℕ) (Q K : Arr) (b b' : Fin 2) (r n y1 p cc : ℕ) (l : Fin 128) (hb : b.val = b'.val)
    (hp : p = 512 * n + y1) (hc : cc = r * 128 + l.val) :
    blkL d L Q K b r n y1 l = attnLse d L Q K b' p cc := by
  obtain rfl := Fin.ext hb
  subst hp hc
  unfold blkL attnLse
  have e1 : (r * 128 + l.val) % 128 = l.val := by omega
  have e2 : (r * 128 + l.val) / 128 = r := by omega
  simp only [e1, e2]

end Cert.Tile

end
-- ==== Proof.Body.lean ====
/- The kernel's body as a whole: what one grid point stores, from its staged blocks and the masks of its four tiles of query rows. -/
module

public import proofs.«01_k».proof.Proof.Tile
public import Idealize.ShloMosaic.Lib.Pipeline.ValueKit.Tiles

@[expose] public section

set_option maxRecDepth 16384

noncomputable section

open Idealize.ShloMosaic Idealize.ShloMosaic.TcCoe Idealize.SL.Sem

namespace Cert.Body

open Cert.Kernel16Ideal Cert.Kernel16Ideal.Gen Cert.Spec Cert.Tile Cert.Words

theorem in_tile (j : Fin 4) (h : Fin 12) (a) : (![0, 128 * j.val, 128 * h.val] : Fin 3 → ℕ) a + S1x128x128.size a ≤ S1x512x1536.size a := by
  revert j h a; decide

theorem in_block (h : Fin 12) (a) : (![0, 0, 128 * h.val] : Fin 3 → ℕ) a + S1x512x128.size a ≤ S1x512x1536.size a := by
  revert h a; decide

theorem in_side (h : Fin 12) (a) : (![0, 0, 128 * h.val] : Fin 3 → ℕ) a + S1x64x128.size a ≤ S1x64x1536.size a := by
  revert h a; decide

theorem in_lanes (j : Fin 4) (a) : (![0, 128 * j.val, 0] : Fin 3 → ℕ) a + S1x128x128.size a ≤ S1x512x128.size a := by
  revert j a; decide

theorem in_window (j : Fin 4) : S640x128.Slices ![128 * j.val, 0] S256x128 := by
  revert j; decide

/-- The window of 256 rows that tile `j` sees, of a head's stacked keys or values. -/
def window (x1 : Vec Ideal S1x512x1536 .bf16) (x2 x3 : Vec Ideal S1x64x1536 .bf16) (j : Fin 4) (h : Fin 12) : FVec Ideal S256x128 .bf16 :=
  extractStridedSlice S256x128 ![128 * j.val, 0]
    (cat3 (View.ld x2 (Rect.unit (s := S1x64x1536) ![0, 0, 128 * h.val] S1x64x128.size (in_side h)))
      (View.ld x1 (Rect.unit (s := S1x512x1536) ![0, 0, 128 * h.val] S1x512x128.size (in_block h)))
      (View.ld x3 (Rect.unit (s := S1x64x1536) ![0, 0, 128 * h.val] S1x64x128.size (in_side h)))) (in_window j)

/-- A tile's query rows. -/
def query (x0 : Vec Ideal S1x512x1536 .bf16) (j : Fin 4) (h : Fin 12) : FVec Ideal S128x128 .bf16 :=
  shapeCast S128x128 (View.ld x0 (Rect.unit (s := S1x512x1536) ![0, 128 * j.val, 128 * h.val] S1x128x128.size (in_tile j h))) shapeCasts_S1x128x128_S128x128

variable (mk : Fin 4 → IVec S128x256 1)
  (x0 x1 : Vec Ideal S1x512x1536 .bf16) (x2 x3 : Vec Ideal S1x64x1536 .bf16) (x4 : Vec Ideal S1x512x1536 .bf16) (x5 x6 : Vec Ideal S1x64x1536 .bf16)

/-- A stored tile of the output. -/
def tileO (j : Fin 4) (h : Fin 12) : FVec Ideal S1x128x128 .bf16 :=
  shapeCast S1x128x128 (tO (mk j) (window x1 x2 x3 j h) (window x4 x5 x6 j h) (query x0 j h)) shapeCasts_S128x128_S1x128x128

/-- The tile of log-sum-exps after the first `w` heads. -/
def lanes (j : Fin 4) : (w : ℕ) → w ≤ 12 → FVec Ideal S128x128 .f32
  | 0, _ => broadcast S128x128 (Scalar.ofBits (F := Ideal) .f32 0x00000000#32)
  | w + 1, hw => select (cmpi .eq (iota .tc S128x128 32 [1] iota_S128x128_d1_w32) (broadcast S128x128 (BitVec.ofNat 32 w)))
      (broadcastTo S128x128 (shapeCast S128x1 (tL (mk j) (window x1 x2 x3 j ⟨w, hw⟩) (query x0 j ⟨w, hw⟩)) shapeCasts_S128x1_S128x1)
        broadcasts_S128x1_S128x128) (lanes j w (Nat.le_of_succ_le hw))

/-- What a grid point stores in the output's block: 48 tiles, the last one first. -/
def outO : Vec Ideal S1x512x1536 .bf16 :=
  View.canon (List.ofFn fun k : Fin 48 =>
    (⟨Rect.unit (s := S1x512x1536) ![0, 128 * ((47 - k.val) % 4), 128 * ((47 - k.val) / 4)] S1x128x128.size
        (in_tile ⟨(47 - k.val) % 4, by omega⟩ ⟨(47 - k.val) / 4, by omega⟩),
      tileO mk x0 x1 x2 x3 x4 x5 x6 ⟨(47 - k.val) % 4, by omega⟩ ⟨(47 - k.val) / 4, by omega⟩⟩ : View.Piece (Elt Ideal) S1x512x1536 .bf16))

/-- What a grid point stores in the block of log-sum-exps: four tiles, the last one first. -/
def outL : Vec Ideal S1x512x128 .f32 :=
  View.canon (List.ofFn fun k : Fin 4 =>
    (⟨Rect.unit (s := S1x512x128) ![0, 128 * (3 - k.val), 0] S1x128x128.size (in_lanes ⟨3 - k.val, by omega⟩),
      shapeCast S1x128x128 (lanes mk x0 x1 x2 x3 ⟨3 - k.val, by omega⟩ 12 (Nat.le_refl _)) shapeCasts_S128x128_S1x128x128⟩ : View.Piece (Elt Ideal) S1x512x128 .f32))

/-- The mask of the first tile of block `n`: the band, and no keys before the first entry. -/
def first (n : ℕ) : IVec S128x256 1 :=
  andi k0_pay5 (ori (cmpi .sge (iota .tc S128x256 32 [1] iota_S128x256_d1_w32) (broadcast S128x256 64#32))
    (broadcast S128x256 (Scalar.cmpi .sgt (BitVec.ofNat 32 n) 0#32)))

/-- The mask of the last tile of block `n` of the blocks `0 … k`: the band, and no keys after the last entry. -/
def last (n k : ℕ) : IVec S128x256 1 :=
  andi k0_pay5 (ori (cmpi .slt (iota .tc S128x256 32 [1] iota_S128x256_d1_w32) (broadcast S128x256 192#32))
    (broadcast S128x256 (Scalar.cmpi .slt (BitVec.ofNat 32 n) (BitVec.ofNat 32 k))))

/-- The masks of the four tiles. -/
def masks (n k : ℕ) : Fin 4 → IVec S128x256 1 := ![first n, k0_pay5, k0_pay5, last n k]

/-- The band alone, in the two middle tiles. -/
theorem mask_mid (n k o : ℕ) (hn : n ≤ k) (hk : k < 1000) (ho : o = 128 ∨ o = 256) : MaskOk (512 * (k + 1)) n o k0_pay5 := by
  intro r c
  unfold InRange
  pointwise [k0_pay5]
  simp (disch := word_cmp_side) only [andi_one, addi_nat, hlo_ix, ofBool_one]
  omega

theorem mask_first (n k : ℕ) (hn : n ≤ k) (hk : k < 1000) : MaskOk (512 * (k + 1)) n 0 (first n) := by
  intro r c
  unfold InRange
  pointwise [first, k0_pay5]
  simp (disch := word_cmp_side) only [andi_one, ori_one, addi_nat, hlo_ix, ofBool_one]
  omega

theorem mask_last (n k : ℕ) (hn : n ≤ k) (hk : k < 1000) : MaskOk (512 * (k + 1)) n 384 (last n k) := by
  intro r c
  unfold InRange
  pointwise [last, k0_pay5]
  simp (disch := word_cmp_side) only [andi_one, ori_one, addi_nat, hlo_ix, ofBool_one]
  omega

/-- The masks are right in every tile. -/
theorem masks_ok (n k : ℕ) (hn : n ≤ k) (hk : k < 1000) : ∀ j : Fin 4, MaskOk (512 * (k + 1)) n (128 * j.val) (masks n k j)
  | 0 => mask_first n k hn hk
  | 1 => mask_mid n k 128 hn hk (.inl rfl)
  | 2 => mask_mid n k 256 hn hk (.inr rfl)
  | 3 => mask_last n k hn hk

variable {mk x0 x1 x2 x3 x4 x5 x6}
variable {d L : ℕ} {Q K V : Arr} {b : Fin 2} {r n : ℕ}

/-- The stored output block is the attention. -/
theorem outO_eq (B : Blocks d L Q K V b r n x0 x1 x2 x3 x4 x5 x6) (hm : ∀ j : Fin 4, MaskOk L n (128 * j.val) (mk j)) (y : S1x512x1536.Idx) :
    outO mk x0 x1 x2 x3 x4 x5 x6 y = blkO d L Q K V b r n y := by
  have y0 : (y 0).val < 1 := (y 0).isLt
  have y1 : (y 1).val < 512 := (y 1).isLt
  have y2 : (y 2).val < 1536 := (y 2).isLt
  refine View.canon_ofFn_unit_eq_of_forall (S := S1x512x1536) (fun k : Fin 48 => ![0, 128 * ((47 - k.val) % 4), 128 * ((47 - k.val) / 4)]) S1x128x128.size
    (fun k => in_tile ⟨(47 - k.val) % 4, by omega⟩ ⟨(47 - k.val) / 4, by omega⟩) _ y _ ?_ fun k x hx => ?_
  · refine ⟨⟨47 - (4 * ((y 2).val / 128) + (y 1).val / 128), by omega⟩, fun a => ?_⟩
    match a with
    | ⟨0, _⟩ => exact ⟨Nat.zero_le _, by show (y 0).val < 0 + 1; omega⟩
    | ⟨1, _⟩ => exact ⟨by show 128 * _ ≤ (y 1).val; simp only; omega, by show (y 1).val < 128 * _ + 128; simp only; omega⟩
    | ⟨2, _⟩ => exact ⟨by show 128 * _ ≤ (y 2).val; simp only; omega, by show (y 2).val < 128 * _ + 128; simp only; omega⟩
  · exact tile_o B _ _ _ (hm ⟨(47 - k.val) % 4, by omega⟩) _ _ _ _ (Nat.mul_mod_right _ _) x y (hx 1) (hx 2)

/-- The lanes entered so far, and those after the last head, are right. -/
theorem lanes_eq (B : Blocks d L Q K V b r n x0 x1 x2 x3 x4 x5 x6) (hm : ∀ j : Fin 4, MaskOk L n (128 * j.val) (mk j)) (j : Fin 4)
    (rr lane : Fin 128) : (w : ℕ) → (hw : w ≤ 12) → (lane.val < w ∨ 12 ≤ lane.val) →
      lanes mk x0 x1 x2 x3 j w hw (ix2 rr lane) = blkL d L Q K b r n (128 * j.val + rr.val) lane
  | 0, _, hl => lanes_zero _ _ _ fun k hk => by omega
  | w + 1, hw, hl => tile_l B _ _ _ w (hm j) _ _ _ _ rfl rr lane _ fun hne =>
      lanes_eq B hm j rr lane w (Nat.le_of_succ_le hw) (by omega)

/-- The stored block of log-sum-exps is the attention's. -/
theorem outL_eq (B : Blocks d L Q K V b r n x0 x1 x2 x3 x4 x5 x6) (hm : ∀ j : Fin 4, MaskOk L n (128 * j.val) (mk j)) (y : S1x512x128.Idx) :
    outL mk x0 x1 x2 x3 y = blkL d L Q K b r n (y 1) (y 2) := by
  have y0 : (y 0).val < 1 := (y 0).isLt
  have y1 : (y 1).val < 512 := (y 1).isLt
  have y2 : (y 2).val < 128 := (y 2).isLt
  refine View.canon_ofFn_unit_eq_of_forall (S := S1x512x128) (fun k : Fin 4 => ![0, 128 * (3 - k.val), 0]) S1x128x128.size
    (fun k => in_lanes ⟨3 - k.val, by omega⟩) _ y _ ?_ fun k x hx => ?_
  · refine ⟨⟨3 - (y 1).val / 128, by omega⟩, fun a => ?_⟩
    match a with
    | ⟨0, _⟩ => exact ⟨Nat.zero_le _, by show (y 0).val < 0 + 1; omega⟩
    | ⟨1, _⟩ => exact ⟨by show 128 * _ ≤ (y 1).val; simp only; omega, by show (y 1).val < 128 * _ + 128; simp only; omega⟩
    | ⟨2, _⟩ => exact ⟨Nat.zero_le _, by show (y 2).val < 0 + 128; omega⟩
  · have h1 : (y 1).val = 128 * (3 - k.val) + (x 1).val := hx 1
    have h2 : (y 2).val = 0 + (x 2).val := hx 2
    refine (lift_at _ x).trans ?_
    rw [show y 2 = ⟨(x 2).val, (x 2).isLt⟩ from Fin.ext (h2.trans (Nat.zero_add _)), h1]
    exact lanes_eq B hm ⟨3 - k.val, by omega⟩ _ _ 12 _ (Nat.lt_or_ge _ _)

end Cert.Body

end
-- ==== Proof.Dil16.lean ====
/- The dilated attention's kernel of the pattern with dilation 16: its two result arrays are the banded attention. -/
module

public import proofs.«01_k».proof.Proof.Gen.Kernel16Ideal.Frame
public import proofs.«01_k».proof.Proof.Body

@[expose] public section

set_option maxRecDepth 16384

noncomputable section

open Idealize.ShloMosaic Idealize.ShloMosaic.TcCoe Idealize.SL.Sem
open Idealize.ShloMosaic.Pipeline (Dat)

namespace Cert.Dil16

open Cert.Kernel16Ideal Cert.Kernel16Ideal.Gen Cert.Spec Cert.Tile Cert.Body Cert.Words

variable (m : (ℓ : Loc nD τ sig) → Buf (Elt Ideal) ℓ)

/-- Where every window's block lies, by the grid point's number. -/
theorem idx : ∀ t : Fin cfg0.N,
    win0_0.index t = ![t.val / 32, t.val % 2, t.val / 2 % 16] ∧ win0_1.index t = ![t.val / 32, t.val % 2, t.val / 2 % 16]
    ∧ win0_2.index t = ![t.val / 32, 8 * (t.val % 2) - 1, t.val / 2 % 16] ∧ win0_3.index t = ![t.val / 32, min (8 * (t.val % 2) + 8) 15, t.val / 2 % 16]
    ∧ win0_4.index t = ![t.val / 32, t.val % 2, t.val / 2 % 16]
    ∧ win0_5.index t = ![t.val / 32, 8 * (t.val % 2) - 1, t.val / 2 % 16] ∧ win0_6.index t = ![t.val / 32, min (8 * (t.val % 2) + 8) 15, t.val / 2 % 16]
    ∧ win0_7.index t = ![t.val / 32, t.val % 2, t.val / 2 % 16] ∧ win0_8.index t = ![t.val / 32, t.val % 2, t.val / 2 % 16]
    ∧ (grid0.coords t 2).val = t.val % 2 ∧ t.val / 32 < 2 :=
  (by decide +kernel : ∀ t : Fin grid0.N, _)

/-- The host's layout of an operand, read at an index. -/
theorem lay (A : Arr) (b : Fin 2) (p r : ℕ) (h : Fin 12) (e : Fin 128) (hp : p < 1024) (hr : r < 16) :
    shapeCast S2x1024x24576 (truncf .bf16 A bitsLt_bf16_f32) shapeCasts_S2x16384x12x128_S2x1024x24576
      (ix3 b ⟨p, hp⟩ ⟨1536 * r + 128 * h.val + e.val, by omega⟩) = A (ix4 b (pos 16 p r) h e) := by
  pointwise []
  exact congrArg (fun z => A (ix4 b z h e)) (Fin.ext (by simp only [pos]; omega))

/-- The staged blocks of grid point `t`. -/
theorem blocks (c : Dev nD) (t : Fin cfg0.N) :
    Blocks 16 1024 (m ((c : Thread nD τ).loc main_arg0)) (m ((c : Thread nD τ).loc main_arg1)) (m ((c : Thread nD τ).loc main_arg2))
      ⟨t.val / 32, (idx t).2.2.2.2.2.2.2.2.2.2⟩ (t.val / 2 % 16) (t.val % 2)
      (iblk m c 0 t) (iblk m c 1 t) (iblk m c 2 t) (iblk m c 3 t) (iblk m c 4 t) (iblk m c 5 t) (iblk m c 6 t) := by
  constructor <;> intros <;>
  · refine Eq.trans ?_ (lay _ _ _ _ _ _ (by omega) (by omega))
    blk_simp [iblk]
    entry_read
    refine congrArg (shapeCast _ _ _) ?_
    blk_ext [idx t]

/-- The masks of grid point `t`. -/
theorem masks_at (t : Fin cfg0.N) (j : Fin 4) : MaskOk 1024 (t.val % 2) (128 * j.val) (masks (grid0.coords t 2).val 1 j) := by
  rw [(idx t).2.2.2.2.2.2.2.2.2.1]
  exact masks_ok (t.val % 2) 1 (by omega) (by decide) j

set_option maxHeartbeats 1600000 in
/-- What a grid point stores in the output window is the attention there. -/
theorem point_o (c : Dev nD) (t : Fin cfg0.N) (y : S1x512x1536.Idx) :
    out0_7 (grid0.coords t) (iblk m c 0 t) (iblk m c 1 t) (iblk m c 2 t) (iblk m c 3 t) (iblk m c 4 t) (iblk m c 5 t) (iblk m c 6 t) y
      = blkO 16 1024 (m ((c : Thread nD τ).loc main_arg0)) (m ((c : Thread nD τ).loc main_arg1)) (m ((c : Thread nD τ).loc main_arg2))
          ⟨t.val / 32, (idx t).2.2.2.2.2.2.2.2.2.2⟩ (t.val / 2 % 16) (t.val % 2) y :=
  outO_eq (blocks m c t) (masks_at t) y

set_option maxHeartbeats 1600000 in
/-- What a grid point stores in the log-sum window is the attention's there. -/
theorem point_l (c : Dev nD) (t : Fin cfg0.N) (y : S1x512x128.Idx) :
    out0_8 (grid0.coords t) (iblk m c 0 t) (iblk m c 1 t) (iblk m c 2 t) (iblk m c 3 t) (iblk m c 4 t) (iblk m c 5 t) (iblk m c 6 t) y
      = blkL 16 1024 (m ((c : Thread nD τ).loc main_arg0)) (m ((c : Thread nD τ).loc main_arg1))
          ⟨t.val / 32, (idx t).2.2.2.2.2.2.2.2.2.2⟩ (t.val / 2 % 16) (t.val % 2) (y 1) (y 2) :=
  outL_eq (blocks m c t) (masks_at t) y

/-- The output array after the run is the attention. -/
theorem final_o (c : Dev nD) : (dats m 0 c).arrAt 7 cfg0.N = fun i : S2x1024x24576.Idx =>
    attnOut 16 1024 (m ((c : Thread nD τ).loc main_arg0)) (m ((c : Thread nD τ).loc main_arg1)) (m ((c : Thread nD τ).loc main_arg2))
      ⟨(i 0).val, (i 0).isLt⟩ (i 1).val (i 2).val := by
  refine (dats m 0 c).arrAt_eq_of_covers 7 _ (by decide +kernel) fun t hf y => ?_
  blk_simp
  rw [after0_7]
  refine (point_o m c t y).trans (blkO_eq 16 1024 _ _ _ _ _ _ _ _ _ y ?_ ?_ ?_) <;> simp [idx t, Nat.mul_comm]

/-- The array of log-sum-exps after the run is the attention's. -/
theorem final_l (c : Dev nD) : (dats m 0 c).arrAt 8 cfg0.N = fun i : S2x1024x2048.Idx =>
    attnLse 16 1024 (m ((c : Thread nD τ).loc main_arg0)) (m ((c : Thread nD τ).loc main_arg1))
      ⟨(i 0).val, (i 0).isLt⟩ (i 1).val (i 2).val := by
  refine (dats m 0 c).arrAt_eq_of_covers 8 _ (by decide +kernel) fun t hf y => ?_
  blk_simp
  rw [after0_8]
  refine (point_l m c t y).trans (blkL_eq 16 1024 _ _ _ _ _ _ _ _ _ _ ?_ ?_ ?_) <;> simp [idx t, Nat.mul_comm]

end Cert.Dil16

end
-- ==== Proof.Host.lean ====
/- A line of host operations, cut in two. -/
module

public import Idealize.ShloMosaic.Lib.StableHlo.RunHlo

@[expose] public section

open Idealize.ShloMosaic Idealize.ShloMosaic.StableHlo

namespace Cert.Host

/-- A line leaves what its operations from the `n`-th on leave over what the first `n` do. -/
theorem after_cut {τ : Topo} {sig : RefSig} {Val : EltTy → Type} (V : Valuation τ sig Val) (n : ℕ) (l : List (HloOp τ sig Val)) :
    after l V = after (l.drop n) (after (l.take n) V) := by
  induction n generalizing l V with
  | zero => rfl
  | succ n ih =>
    cases l with
    | nil => rfl
    | cons op l => exact ih (op.result V) l

end Cert.Host
-- ==== Proof.Blocks.lean ====
/- Blocks of 64 queries against their neighbouring keys, for any number of blocks and of residue classes. -/
module

public import Idealize.ShloMosaic.Lib.StableHlo.RunHlo
public import Idealize.ShloMosaic.Lib.StableHlo.RunRead
public import Idealize.ShloMosaic.Lib.KernelVsHost
public import proofs.«01_k».proof.Proof.Host
public import proofs.«01_k».proof.Proof.Words
public import proofs.«01_k».proof.Proof.Spec

@[expose] public section

set_option maxRecDepth 16384

noncomputable section

open Idealize.ShloMosaic Idealize.ShloMosaic.TcCoe Idealize.SL.Sem

namespace Cert.Blocks

open Cert.Window Cert.Spec Cert.Words

/-- The shape of a single number. -/
abbrev T0 : Shape := ⟨0, ![]⟩
/-- The shape of a vector. -/
abbrev T1 (a : ℕ) : Shape := ⟨1, ![a]⟩
/-- The shape of a matrix. -/
abbrev T2 (a b : ℕ) : Shape := ⟨2, ![a, b]⟩
/-- A shape of three axes. -/
abbrev T3 (a b c : ℕ) : Shape := ⟨3, ![a, b, c]⟩
/-- A shape of five axes. -/
abbrev T5 (a b c d e : ℕ) : Shape := ⟨5, ![a, b, c, d, e]⟩
/-- A shape of six axes. -/
abbrev T6 (a b c d e f : ℕ) : Shape := ⟨6, ![a, b, c, d, e, f]⟩

/-- The shapes fit, for `nb` blocks of each of `d` residue classes. -/
structure Fit (nb d : ℕ) : Prop where
  pad : (T6 2 nb 64 d 12 128).Pads (![0, 1, 0, 0, 0, 0] : Fin 6 → Nat) ![0, 1, 0, 0, 0, 0] ![0, 0, 0, 0, 0, 0] (T6 2 (nb + 2) 64 d 12 128)
  cut0 : (T6 2 (nb + 2) 64 d 12 128).Slices ![0, 0, 0, 0, 0, 0] (T6 2 nb 64 d 12 128)
  cut1 : (T6 2 (nb + 2) 64 d 12 128).Slices ![0, 1, 0, 0, 0, 0] (T6 2 nb 64 d 12 128)
  cut2 : (T6 2 (nb + 2) 64 d 12 128).Slices ![0, 2, 0, 0, 0, 0] (T6 2 nb 64 d 12 128)
  cat : Shape.Concatenates [T6 2 nb 64 d 12 128, T6 2 nb 64 d 12 128, T6 2 nb 64 d 12 128] (T6 2 nb 192 d 12 128) 2
  col : (T1 nb).BroadcastsInDim (T2 nb 1) (![0] : Fin 1 → Fin (T2 nb 1).rank)
  const_col : T0.BroadcastsInDim (T2 nb 1) (![] : Fin 0 → Fin (T2 nb 1).rank)
  row_q : (T1 64).BroadcastsInDim (T2 1 64) (![1] : Fin 1 → Fin (T2 1 64).rank)
  col_q : (T2 nb 1).BroadcastsInDim (T2 nb 64) (![0, 1] : Fin 2 → Fin (T2 nb 64).rank)
  rows_q : (T2 1 64).BroadcastsInDim (T2 nb 64) (![0, 1] : Fin 2 → Fin (T2 nb 64).rank)
  row_k : (T1 192).BroadcastsInDim (T2 1 192) (![1] : Fin 1 → Fin (T2 1 192).rank)
  col_k : (T2 nb 1).BroadcastsInDim (T2 nb 192) (![0, 1] : Fin 2 → Fin (T2 nb 192).rank)
  rows_k : (T2 1 192).BroadcastsInDim (T2 nb 192) (![0, 1] : Fin 2 → Fin (T2 nb 192).rank)
  key : (T2 nb 192).BroadcastsInDim (T3 nb 1 192) (![0, 2] : Fin 2 → Fin (T3 nb 1 192).rank)
  query : (T2 nb 64).BroadcastsInDim (T3 nb 64 1) (![0, 1] : Fin 2 → Fin (T3 nb 64 1).rank)
  keys : (T3 nb 1 192).BroadcastsInDim (T3 nb 64 192) (![0, 1, 2] : Fin 3 → Fin (T3 nb 64 192).rank)
  queries : (T3 nb 64 1).BroadcastsInDim (T3 nb 64 192) (![0, 1, 2] : Fin 3 → Fin (T3 nb 64 192).rank)
  const_all : T0.BroadcastsInDim (T3 nb 64 192) (![] : Fin 0 → Fin (T3 nb 64 192).rank)
  const_key : T0.BroadcastsInDim (T3 nb 1 192) (![] : Fin 0 → Fin (T3 nb 1 192).rank)
  mask : (T3 nb 64 192).BroadcastsInDim (T6 1 nb 1 1 64 192) (![1, 4, 5] : Fin 3 → Fin (T6 1 nb 1 1 64 192).rank)
  masks : (T6 1 nb 1 1 64 192).BroadcastsInDim (T6 2 nb d 12 64 192) (![0, 1, 2, 3, 4, 5] : Fin 6 → Fin (T6 2 nb d 12 64 192).rank)
  const_score : T0.BroadcastsInDim (T6 2 nb d 12 64 192) (![] : Fin 0 → Fin (T6 2 nb d 12 64 192).rank)
  red : (T6 2 nb d 12 64 192).ReducesTo [5] (T5 2 nb d 12 64)
  stat : (T5 2 nb d 12 64).BroadcastsInDim (T6 2 nb d 12 64 1) (![0, 1, 2, 3, 4] : Fin 5 → Fin (T6 2 nb d 12 64 1).rank)
  stats : (T6 2 nb d 12 64 1).BroadcastsInDim (T6 2 nb d 12 64 192) (![0, 1, 2, 3, 4, 5] : Fin 6 → Fin (T6 2 nb d 12 64 192).rank)
  turn : (T5 2 nb d 12 64).Transposes [0, 1, 4, 2, 3] (T5 2 nb 64 d 12)
  turn_out : (T6 2 nb d 12 128 64).Transposes [0, 1, 5, 2, 3, 4] (T6 2 nb 64 d 12 128)
  den : (T5 2 nb 64 d 12).BroadcastsInDim (T6 2 nb 64 d 12 1) (![0, 1, 2, 3, 4] : Fin 5 → Fin (T6 2 nb 64 d 12 1).rank)
  dens : (T6 2 nb 64 d 12 1).BroadcastsInDim (T6 2 nb 64 d 12 128) (![0, 1, 2, 3, 4, 5] : Fin 6 → Fin (T6 2 nb 64 d 12 128).rank)
  scores : DotDims.WF (T6 2 nb 64 d 12 128) (T6 2 nb 192 d 12 128) (T6 2 nb d 12 64 192) [5] [5] [2] [2] [0, 1, 3, 4] [0, 1, 3, 4]
  outs : DotDims.WF (T6 2 nb 192 d 12 128) (T6 2 nb d 12 64 192) (T6 2 nb d 12 128 64) [2] [5] [5] [4] [0, 1, 3, 4] [0, 1, 2, 3]
  reds : Shape.Reduces (T6 2 nb d 12 64 192) [5] (T5 2 nb d 12 64)

variable {nb d : ℕ} (H : Fit nb d)

/-- Scores: the products of queries and keys, summed over the entries of a head. -/
def dotScores : DotDims (T6 2 nb 64 d 12 128) (T6 2 nb 192 d 12 128) (T6 2 nb d 12 64 192) where
  lhsContracting := [5]
  rhsContracting := [5]
  lhsNonContracting := [2]
  rhsNonContracting := [2]
  lhsBatch := [0, 1, 3, 4]
  rhsBatch := [0, 1, 3, 4]
  wf := H.scores

/-- Outputs: the products of values and weights, summed over the neighbouring keys. -/
def dotOut : DotDims (T6 2 nb 192 d 12 128) (T6 2 nb d 12 64 192) (T6 2 nb d 12 128 64) where
  lhsContracting := [2]
  rhsContracting := [5]
  lhsNonContracting := [5]
  rhsNonContracting := [4]
  lhsBatch := [0, 1, 3, 4]
  rhsBatch := [0, 1, 2, 3]
  wf := H.outs

/-- The blocks with one block of zeros on either side. -/
def padded (x : FVec Ideal (T6 2 nb 64 d 12 128) .f32) : FVec Ideal (T6 2 (nb + 2) 64 d 12 128) .f32 :=
  pad (T6 2 (nb + 2) 64 d 12 128) ![0, 1, 0, 0, 0, 0] ![0, 1, 0, 0, 0, 0] ![0, 0, 0, 0, 0, 0] x (sitofp .f32 (constantI T0 32 0#32))
    H.pad (by decide)

/-- Three arrays of blocks side by side. -/
def join (x y z : FVec Ideal (T6 2 nb 64 d 12 128) .f32) : FVec Ideal (T6 2 nb 192 d 12 128) .f32 :=
  concatenate (T6 2 nb 192 d 12 128) 2 [⟨T6 2 nb 64 d 12 128, x⟩, ⟨T6 2 nb 64 d 12 128, y⟩, ⟨T6 2 nb 64 d 12 128, z⟩]
    H.cat

/-- The block before each. -/
def before (x : FVec Ideal (T6 2 (nb + 2) 64 d 12 128) .f32) : FVec Ideal (T6 2 nb 64 d 12 128) .f32 :=
  extractStridedSlice (T6 2 nb 64 d 12 128) ![0, 0, 0, 0, 0, 0] x H.cut0

/-- Each block itself. -/
def same (x : FVec Ideal (T6 2 (nb + 2) 64 d 12 128) .f32) : FVec Ideal (T6 2 nb 64 d 12 128) .f32 :=
  extractStridedSlice (T6 2 nb 64 d 12 128) ![0, 1, 0, 0, 0, 0] x H.cut1

/-- The block after each. -/
def behind (x : FVec Ideal (T6 2 (nb + 2) 64 d 12 128) .f32) : FVec Ideal (T6 2 nb 64 d 12 128) .f32 :=
  extractStridedSlice (T6 2 nb 64 d 12 128) ![0, 2, 0, 0, 0, 0] x H.cut2

/-- Each block with its two neighbours. -/
def near (x : FVec Ideal (T6 2 (nb + 2) 64 d 12 128) .f32) : FVec Ideal (T6 2 nb 192 d 12 128) .f32 := join H (before H x) (same H x) (behind H x)

/-- The position of every key, by block and place among the block's neighbours. -/
def kpos : IVec (T2 nb 192) 32 :=
  addi (broadcastInDim (T2 nb 192) ![0, 1] H.col_k
    (subi (muli (broadcastInDim (T2 nb 1) ![0] H.col (iotaInDim (T1 nb) 32 0)) (broadcastInDim (T2 nb 1) ![] H.const_col (constantI T0 32 64#32)))
      (broadcastInDim (T2 nb 1) ![] H.const_col (constantI T0 32 64#32))))
    (broadcastInDim (T2 nb 192) ![0, 1] H.rows_k
    (broadcastInDim (T2 1 192) ![1] H.row_k (iotaInDim (T1 192) 32 0)))

/-- The position of every query, by block and place in it. -/
def qpos : IVec (T2 nb 64) 32 :=
  addi (broadcastInDim (T2 nb 64) ![0, 1] H.col_q (muli (broadcastInDim (T2 nb 1) ![0] H.col (iotaInDim (T1 nb) 32 0)) (broadcastInDim (T2 nb 1) ![] H.const_col (constantI T0 32 64#32))))
    (broadcastInDim (T2 nb 64) ![0, 1] H.rows_q
    (broadcastInDim (T2 1 64) ![1] H.row_q (iotaInDim (T1 64) 32 0)))

/-- Which keys a query sees. -/
def valid (L : ℕ) : IVec (T3 nb 64 192) 1 :=
  andi (andi
      (cmpi .sle (absi (subi
    (broadcastInDim (T3 nb 64 192) ![0, 1, 2] H.keys (broadcastInDim (T3 nb 1 192) ![0, 2] H.key (kpos H)))
    (broadcastInDim (T3 nb 64 192) ![0, 1, 2] H.queries (broadcastInDim (T3 nb 64 1) ![0, 1] H.query (qpos H)))))
    (broadcastInDim (T3 nb 64 192) ![] H.const_all (constantI T0 32 64#32)))
    (broadcastInDim (T3 nb 64 192) ![0, 1, 2] H.keys
      (cmpi .sge (broadcastInDim (T3 nb 1 192) ![0, 2] H.key (kpos H)) (broadcastInDim (T3 nb 1 192) ![] H.const_key (constantI T0 32 0#32)))))
    (broadcastInDim (T3 nb 64 192) ![0, 1, 2] H.keys
      (cmpi .slt (broadcastInDim (T3 nb 1 192) ![0, 2] H.key (kpos H)) (broadcastInDim (T3 nb 1 192) ![] H.const_key (constantI T0 32 (BitVec.ofNat 32 L)))))

/-- The masked scores of blocks of queries against their neighbouring keys. -/
def masked (L : ℕ) (q : FVec Ideal (T6 2 nb 64 d 12 128) .f32) (k : FVec Ideal (T6 2 nb 192 d 12 128) .f32) : FVec Ideal (T6 2 nb d 12 64 192) .f32 :=
  select (broadcastInDim (T6 2 nb d 12 64 192) ![0, 1, 2, 3, 4, 5] H.masks
      (broadcastInDim (T6 1 nb 1 1 64 192) ![1, 4, 5] H.mask (valid H L)))
    (Host.dotGeneral (dotScores H) none q k)
    (broadcastInDim (T6 2 nb d 12 64 192) ![] H.const_score (id (constant T0 .f32 0xFF800000#32)))

/-- The maxima of the rows of scores. -/
def sM (s : FVec Ideal (T6 2 nb d 12 64 192) .f32) : FVec Ideal (T5 2 nb d 12 64) .f32 :=
  Host.reduce FloatOps.maximumf s (constant T0 .f32 0xFF800000#32) H.red (by decide)

/-- The unnormalised weights. -/
def sP (s : FVec Ideal (T6 2 nb d 12 64 192) .f32) : FVec Ideal (T6 2 nb d 12 64 192) .f32 :=
  Host.exp (subf s (broadcastInDim (T6 2 nb d 12 64 192) ![0, 1, 2, 3, 4, 5] H.stats
    (broadcastInDim (T6 2 nb d 12 64 1) ![0, 1, 2, 3, 4] H.stat (sM H s))))

/-- The denominators. -/
def sD (s : FVec Ideal (T6 2 nb d 12 64 192) .f32) : FVec Ideal (T5 2 nb d 12 64) .f32 :=
  Host.reduceAdd (sP H s) (constant T0 .f32 0x00000000#32) H.red (by decide)

/-- A statistic of the rows, by block and place. -/
def byPlace (x : FVec Ideal (T5 2 nb d 12 64) .f32) : FVec Ideal (T5 2 nb 64 d 12) .f32 :=
  transpose (T5 2 nb 64 d 12) [0, 1, 4, 2, 3] x H.turn

/-- The output rows, block by block, from the weights, the denominators and the values. -/
def outRows (p : FVec Ideal (T6 2 nb d 12 64 192) .f32) (z : FVec Ideal (T5 2 nb d 12 64) .f32) (v : FVec Ideal (T6 2 nb 192 d 12 128) .f32) : FVec Ideal (T6 2 nb 64 d 12 128) .f32 :=
  Host.divf (transpose (T6 2 nb 64 d 12 128) [0, 1, 5, 2, 3, 4]
      (Host.dotGeneral (dotOut H) none v p)
      H.turn_out)
    (broadcastInDim (T6 2 nb 64 d 12 128) ![0, 1, 2, 3, 4, 5] H.dens
      (broadcastInDim (T6 2 nb 64 d 12 1) ![0, 1, 2, 3, 4] H.den
        (byPlace H z)))

/-- A block of the padded array is the block before it of the array. -/
theorem padded_at (x : FVec Ideal (T6 2 nb 64 d 12 128) .f32) (b : Fin 2) (m : Fin (nb + 2)) (n : Fin nb) (i : Fin 64) (r : Fin d) (h : Fin 12)
    (e : Fin 128) (hm : m.val = n.val + 1) : padded H x (ix6 b m i r h e) = x (ix6 b n i r h e) := by
  refine pad_apply_of_inside _ _ _ x _ H.pad _ _ (ix6 b n i r h e) fun a => ?_
  fin_cases a <;> simp [ix6] <;> omega

/-- The first 64 places of a neighbourhood lie in the block before. -/
theorem near_first (x : FVec Ideal (T6 2 (nb + 2) 64 d 12 128) .f32) (b : Fin 2) (n : Fin nb) (t : Fin 192) (r : Fin d) (h : Fin 12) (e : Fin 128)
    (i : Fin 64) (ht : t.val = i.val) : near H x (ix6 b n t r h e) = x (ix6 b ⟨n.val, by omega⟩ i r h e) := by
  refine (concatenate_apply_piece (t := T6 2 nb 192 d 12 128) (2 : Fin 6)
    [⟨T6 2 nb 64 d 12 128, before H x⟩, ⟨T6 2 nb 64 d 12 128, same H x⟩, ⟨T6 2 nb 64 d 12 128, behind H x⟩] H.cat _ 0 (by decide : 0 < 3) (T6 2 nb 64 d 12 128) (before H x) rfl rfl 0 rfl (ix6 b n i r h e) ?_ ?_).trans
    (extractStridedSlice_apply _ x H.cut0 _ (ix6 b ⟨n.val, by omega⟩ i r h e) ?_)
  · intro a ha
    fin_cases a <;> first | rfl | exact absurd rfl ha
  · exact (Nat.zero_add _).trans ht.symm
  · intro a
    fin_cases a <;> exact (Nat.zero_add _).symm

/-- The next 64 places lie in the block itself. -/
theorem near_second (x : FVec Ideal (T6 2 (nb + 2) 64 d 12 128) .f32) (b : Fin 2) (n : Fin nb) (t : Fin 192) (r : Fin d) (h : Fin 12) (e : Fin 128)
    (i : Fin 64) (ht : t.val = 64 + i.val) : near H x (ix6 b n t r h e) = x (ix6 b ⟨1 + n.val, by omega⟩ i r h e) := by
  refine (concatenate_apply_piece (t := T6 2 nb 192 d 12 128) (2 : Fin 6)
    [⟨T6 2 nb 64 d 12 128, before H x⟩, ⟨T6 2 nb 64 d 12 128, same H x⟩, ⟨T6 2 nb 64 d 12 128, behind H x⟩] H.cat _ 1 (by decide : 1 < 3) (T6 2 nb 64 d 12 128) (same H x) rfl rfl 64 rfl (ix6 b n i r h e) ?_ ?_).trans
    (extractStridedSlice_apply _ x H.cut1 _ (ix6 b ⟨1 + n.val, by omega⟩ i r h e) ?_)
  · intro a ha
    fin_cases a <;> first | rfl | exact absurd rfl ha
  · exact ht.symm
  · intro a
    fin_cases a <;> first | rfl | exact (Nat.zero_add _).symm

/-- The last 64 places lie in the block after. -/
theorem near_third (x : FVec Ideal (T6 2 (nb + 2) 64 d 12 128) .f32) (b : Fin 2) (n : Fin nb) (t : Fin 192) (r : Fin d) (h : Fin 12) (e : Fin 128)
    (i : Fin 64) (ht : t.val = 128 + i.val) : near H x (ix6 b n t r h e) = x (ix6 b ⟨2 + n.val, by omega⟩ i r h e) := by
  refine (concatenate_apply_piece (t := T6 2 nb 192 d 12 128) (2 : Fin 6)
    [⟨T6 2 nb 64 d 12 128, before H x⟩, ⟨T6 2 nb 64 d 12 128, same H x⟩, ⟨T6 2 nb 64 d 12 128, behind H x⟩] H.cat _ 2 (by decide : 2 < 3) (T6 2 nb 64 d 12 128) (behind H x) rfl rfl 128 rfl (ix6 b n i r h e) ?_ ?_).trans
    (extractStridedSlice_apply _ x H.cut2 _ (ix6 b ⟨2 + n.val, by omega⟩ i r h e) ?_)
  · intro a ha
    fin_cases a <;> first | rfl | exact absurd rfl ha
  · exact ht.symm
  · intro a
    fin_cases a <;> first | rfl | exact (Nat.zero_add _).symm

/-- The entry of the neighbourhood of block `n` at a place that lies in block `n'`. -/
theorem near_at (x : FVec Ideal (T6 2 nb 64 d 12 128) .f32) (b : Fin 2) (n : Fin nb) (t : Fin 192) (r : Fin d) (h : Fin 12) (e : Fin 128)
    (n' : Fin nb) (i : Fin 64) (ht : 64 * n.val + t.val = 64 + 64 * n'.val + i.val) :
    near H (padded H x) (ix6 b n t r h e) = x (ix6 b n' i r h e) := by
  rcases (by omega : t.val = i.val ∨ t.val = 64 + i.val ∨ t.val = 128 + i.val) with h0 | h1 | h2
  · exact (near_first H _ b n t r h e i h0).trans (padded_at H x b _ n' i r h e (by simp only; omega))
  · exact (near_second H _ b n t r h e i h1).trans (padded_at H x b _ n' i r h e (by simp only; omega))
  · exact (near_third H _ b n t r h e i h2).trans (padded_at H x b _ n' i r h e (by simp only; omega))

/-- A broadcast reads its operand at the same coordinates, whatever it reads on an axis of size one. -/
theorem bcast {s t : Shape} {α : Type} (dims : Fin s.rank → Fin t.rank) (hb : s.BroadcastsInDim t dims) (x : s.Idx → α) (i : t.Idx) (j : s.Idx)
    (hj : ∀ a : Fin s.rank, s.size a ≠ 1 → (j a).val = (i (dims a)).val) : broadcastInDim t dims hb x i = x j := by
  refine broadcastInDim_apply dims hb x i j fun a => ?_
  by_cases ha : s.size a = 1
  · rw [if_pos ha]
    have := (j a).isLt
    omega
  · rw [if_neg ha]
    exact hj a ha

/-- The position of a key, in machine words. -/
theorem kpos_at (n : Fin nb) (t : Fin 192) : kpos H (ix2 n t)
    = IntOp.addi (IntOp.subi (IntOp.muli (BitVec.ofNat 32 n.val) 64#32) 64#32) (BitVec.ofNat 32 t.val) := by
  refine congrArg₂ IntOp.addi ((bcast ![0, 1] H.col_k _ _ (ix2 n 0) ?_).trans
    (congrArg₂ IntOp.subi (congrArg₂ IntOp.muli (bcast ![0] H.col _ _ (ix1 n) ?_) rfl) rfl))
    ((bcast ![0, 1] H.rows_k _ _ (ix2 0 t) ?_).trans (bcast ![1] H.row_k _ _ (ix1 t) ?_)) <;>
    (intro a ha; fin_cases a <;> first | rfl | exact absurd rfl ha)

/-- The position of a query, in machine words. -/
theorem qpos_at (n : Fin nb) (i : Fin 64) : qpos H (ix2 n i)
    = IntOp.addi (IntOp.muli (BitVec.ofNat 32 n.val) 64#32) (BitVec.ofNat 32 i.val) := by
  refine congrArg₂ IntOp.addi ((bcast ![0, 1] H.col_q _ _ (ix2 n 0) ?_).trans
    (congrArg₂ IntOp.muli (bcast ![0] H.col _ _ (ix1 n) ?_) rfl))
    ((bcast ![0, 1] H.rows_q _ _ (ix2 0 i) ?_).trans (bcast ![1] H.row_q _ _ (ix1 i) ?_)) <;>
    (intro a ha; fin_cases a <;> first | rfl | exact absurd rfl ha)

/-- Something said of every key, read for a query and a key. -/
theorem keys_at {α : Type} (x : (T3 nb 1 192).Idx → α) (n : Fin nb) (i : Fin 64) (t : Fin 192) :
    broadcastInDim (T3 nb 64 192) ![0, 1, 2] H.keys x (ix3 n i t) = x (ix3 n 0 t) :=
  bcast ![0, 1, 2] H.keys x _ (ix3 n 0 t) fun a ha => by fin_cases a <;> first | rfl | exact absurd rfl ha

/-- The key positions with an axis for the queries. -/
theorem key_at (n : Fin nb) (t : Fin 192) : broadcastInDim (T3 nb 1 192) ![0, 2] H.key (kpos H) (ix3 n 0 t) = kpos H (ix2 n t) :=
  bcast ![0, 2] H.key _ _ (ix2 n t) fun a ha => by fin_cases a <;> rfl

/-- The query positions for a query and a key. -/
theorem query_at (n : Fin nb) (i : Fin 64) (t : Fin 192) :
    broadcastInDim (T3 nb 64 192) ![0, 1, 2] H.queries (broadcastInDim (T3 nb 64 1) ![0, 1] H.query (qpos H)) (ix3 n i t) = qpos H (ix2 n i) := by
  refine (bcast ![0, 1, 2] H.queries _ _ (ix3 n i 0) ?_).trans (bcast ![0, 1] H.query _ _ (ix2 n i) ?_) <;>
    (intro a ha; fin_cases a <;> first | rfl | exact absurd rfl ha)

/-- A query sees the keys of its band that lie in the sequence. -/
theorem valid_at (L : ℕ) (hL : L < 100000000) (hn : nb < 1000000) (n : Fin nb) (i : Fin 64) (t : Fin 192) :
    valid H L (ix3 n i t) = 1#1 ↔ (i.val ≤ t.val ∧ t.val < i.val + 129 ∧ InRange L (64 * n.val + i.val) (t.val - i.val)) := by
  have e : valid H L (ix3 n i t) = IntOp.andi (IntOp.andi
      (IntOp.cmpi .sle (IntOp.absi (IntOp.subi (kpos H (ix2 n t)) (qpos H (ix2 n i)))) 64#32)
      (IntOp.cmpi .sge (kpos H (ix2 n t)) 0#32)) (IntOp.cmpi .slt (kpos H (ix2 n t)) (BitVec.ofNat 32 L)) :=
    congrArg₂ IntOp.andi (congrArg₂ IntOp.andi
      (congrArg (fun z => IntOp.cmpi .sle (IntOp.absi z) 64#32)
        (congrArg₂ IntOp.subi ((keys_at H _ n i t).trans (key_at H n t)) (query_at H n i t)))
      ((keys_at H _ n i t).trans (congrArg (fun z => IntOp.cmpi .sge z 0#32) (key_at H n t))))
      ((keys_at H _ n i t).trans (congrArg (fun z => IntOp.cmpi .slt z (BitVec.ofNat 32 L)) (key_at H n t)))
  unfold InRange
  rw [e, kpos_at, qpos_at]
  exact visible n.val i.val t.val L (by omega) i.isLt t.isLt hL

/-- A score: the product of query and key where the query sees the key, −∞ elsewhere. -/
theorem masked_at (L : ℕ) (q : FVec Ideal (T6 2 nb 64 d 12 128) .f32) (k : FVec Ideal (T6 2 nb 192 d 12 128) .f32)
    (b : Fin 2) (n : Fin nb) (r : Fin d) (h : Fin 12) (i : Fin 64) (t : Fin 192) :
    masked H L q k (ix6 b n r h i t) = if valid H L (ix3 n i t) = 1#1 then ∑ e : Fin 128, q (ix6 b n i r h e) * k (ix6 b n t r h e) else ⊥ := by
  have e1 : broadcastInDim (T6 2 nb d 12 64 192) ![0, 1, 2, 3, 4, 5] H.masks
      (broadcastInDim (T6 1 nb 1 1 64 192) ![1, 4, 5] H.mask (valid H L)) (ix6 b n r h i t) = valid H L (ix3 n i t) := by
    refine (bcast ![0, 1, 2, 3, 4, 5] H.masks _ _ (ix6 0 n 0 0 i t) ?_).trans (bcast ![1, 4, 5] H.mask _ _ (ix3 n i t) ?_) <;>
      (intro a ha; fin_cases a <;> first | rfl | exact absurd rfl ha)
  have e2 : Host.dotGeneral (dotScores H) none q k (ix6 b n r h i t) = ∑ e : Fin 128, q (ix6 b n i r h e) * k (ix6 b n t r h e) := by
    pointwise [dotScores]
    refine Finset.sum_congr rfl fun e _ => congrArg₂ (fun u v => q u * k v) ?_ ?_ <;>
      (funext a; fin_cases a <;> rfl)
  refine (congrArg₂ (fun u v => Scalar.select u v (Ideal.ofBits .f32 0xFF800000#32)) e1 e2).trans ?_
  exact congrArg (Scalar.select _ _) neg_inf

/-- The row of scores of a query. -/
def srow (s : FVec Ideal (T6 2 nb d 12 64 192) .f32) (b : Fin 2) (n : Fin nb) (r : Fin d) (h : Fin 12) (i : Fin 64) (t : Fin 192) : EReal :=
  s (ix6 b n r h i t)

/-- The row of scores that a maximum or a sum runs over. -/
theorem lift_ix (hr : Shape.Reduces (T6 2 nb d 12 64 192) [5] (T5 2 nb d 12 64)) (b : Fin 2) (n : Fin nb) (r : Fin d) (h : Fin 12) (i : Fin 64) (t : Fin 192) :
    hr.lift (ix5 b n r h i) t = ix6 b n r h i t := by
  funext a
  apply Fin.ext
  match a with
  | ⟨0, _⟩ => rfl
  | ⟨1, _⟩ => rfl
  | ⟨2, _⟩ => rfl
  | ⟨3, _⟩ => rfl
  | ⟨4, _⟩ => rfl
  | ⟨5, _⟩ => rfl

/-- The maximum of a row of scores. -/
theorem sM_at (s : FVec Ideal (T6 2 nb d 12 64 192) .f32) (b : Fin 2) (n : Fin nb) (r : Fin d) (h : Fin 12) (i : Fin 64) :
    sM H s (ix5 b n r h i) = rowMax (srow s b n r h i) := by
  unfold sM
  rw [Host.reduce_eq_fold_single FloatOps.maximumf s _ H.red H.reds (by decide)]
  unfold rowMax srow
  rw [show s ∘ H.reds.lift (ix5 b n r h i) = fun t => s (ix6 b n r h i t) from funext fun t => congrArg s (lift_ix H.reds b n r h i t)]
  exact congrArg (fun z => Finset.fold max z (fun t => s (ix6 b n r h i t)) Finset.univ) neg_inf

/-- The weights of a row of scores. -/
theorem sP_at (s : FVec Ideal (T6 2 nb d 12 64 192) .f32) (b : Fin 2) (n : Fin nb) (r : Fin d) (h : Fin 12) (i : Fin 64) (t : Fin 192) :
    sP H s (ix6 b n r h i t) = rowW (srow s b n r h i) t := by
  refine congrArg (fun z => Ideal.exp (s (ix6 b n r h i t) - z)) (((bcast ![0, 1, 2, 3, 4, 5] H.stats _ _ (ix6 b n r h i 0) ?_).trans
    (bcast ![0, 1, 2, 3, 4] H.stat _ _ (ix5 b n r h i) ?_)).trans (sM_at H s b n r h i)) <;>
    (intro a ha; fin_cases a <;> first | rfl | exact absurd rfl ha)

/-- The denominator of a row of scores. -/
theorem sD_at (s : FVec Ideal (T6 2 nb d 12 64 192) .f32) (b : Fin 2) (n : Fin nb) (r : Fin d) (h : Fin 12) (i : Fin 64) :
    sD H s (ix5 b n r h i) = rowDen (srow s b n r h i) := by
  unfold sD
  refine (Ideal.hostReduceAdd_single H.red H.reds _ _ _).trans ?_
  unfold rowDen
  exact (congrArg₂ (· + ·) (Ideal.ofBits_zero_f32) (Finset.sum_congr rfl fun t _ =>
    (congrArg (sP H s) (lift_ix H.reds b n r h i t)).trans (sP_at H s b n r h i t))).trans (zero_add _)

/-- A statistic of the rows, read by place. -/
theorem byPlace_at (x : FVec Ideal (T5 2 nb d 12 64) .f32) (b : Fin 2) (n : Fin nb) (r : Fin d) (h : Fin 12) (i : Fin 64) :
    byPlace H x (ix5 b n i r h) = x (ix5 b n r h i) :=
  transpose_apply _ x H.turn _ (ix5 b n r h i) fun a => by fin_cases a <;> rfl

/-- A statistic of the rows, spread over the entries of a head. -/
theorem spread_at (x : FVec Ideal (T5 2 nb d 12 64) .f32) (b : Fin 2) (n : Fin nb) (r : Fin d) (h : Fin 12) (i : Fin 64) (e : Fin 128) :
    broadcastInDim (T6 2 nb 64 d 12 128) ![0, 1, 2, 3, 4, 5] H.dens
      (broadcastInDim (T6 2 nb 64 d 12 1) ![0, 1, 2, 3, 4] H.den (byPlace H x)) (ix6 b n i r h e) = x (ix5 b n r h i) := by
  refine ((bcast ![0, 1, 2, 3, 4, 5] H.dens _ _ (ix6 b n i r h 0) ?_).trans (bcast ![0, 1, 2, 3, 4] H.den _ _ (ix5 b n i r h) ?_)).trans
    (byPlace_at H x b n r h i) <;>
    (intro a ha; fin_cases a <;> first | rfl | exact absurd rfl ha)

/-- The products of weights and values, summed over the neighbouring keys. -/
theorem sum_at (p : FVec Ideal (T6 2 nb d 12 64 192) .f32) (v : FVec Ideal (T6 2 nb 192 d 12 128) .f32)
    (b : Fin 2) (n : Fin nb) (r : Fin d) (h : Fin 12) (i : Fin 64) (e : Fin 128) :
    transpose (T6 2 nb 64 d 12 128) [0, 1, 5, 2, 3, 4] (Host.dotGeneral (dotOut H) none v p) H.turn_out (ix6 b n i r h e)
      = ∑ t : Fin 192, v (ix6 b n t r h e) * p (ix6 b n r h i t) := by
  refine (transpose_apply _ _ H.turn_out _ (ix6 b n r h e i) fun a => by fin_cases a <;> rfl).trans ?_
  pointwise [dotOut]
  refine Finset.sum_congr rfl fun t _ => congrArg₂ (fun u w => v u * p w) ?_ ?_ <;>
    (funext a; fin_cases a <;> rfl)

/-- An output row. -/
theorem out_at (s : FVec Ideal (T6 2 nb d 12 64 192) .f32) (v : FVec Ideal (T6 2 nb 192 d 12 128) .f32)
    (b : Fin 2) (n : Fin nb) (r : Fin d) (h : Fin 12) (i : Fin 64) (e : Fin 128) :
    outRows H (sP H s) (sD H s) v (ix6 b n i r h e) = rowOut (srow s b n r h i) fun t => v (ix6 b n t r h e) := by
  have e1 := sum_at H (sP H s) v b n r h i e
  have e2 := (spread_at H (sD H s) b n r h i e).trans (sD_at H s b n r h i)
  unfold rowOut
  refine (congrArg₂ Ideal.div e1 e2).trans (congrArg (fun z => Ideal.div z _) (Finset.sum_congr rfl fun t _ => ?_))
  rw [sP_at, mul_comm]

/-- The masked scores of blocks of queries and keys, for a sequence of `L`. -/
def scores (L : ℕ) (q k : FVec Ideal (T6 2 nb 64 d 12 128) .f32) : FVec Ideal (T6 2 nb d 12 64 192) .f32 :=
  masked H L q (near H (padded H k))

/-- The output rows of blocks of queries, keys and values. -/
def rows (L : ℕ) (q k v : FVec Ideal (T6 2 nb 64 d 12 128) .f32) : FVec Ideal (T6 2 nb 64 d 12 128) .f32 :=
  outRows H (sP H (scores H L q k)) (sD H (scores H L q k)) (near H (padded H v))

/-- An array's blocks: 64 entries of every residue class in each. -/
def Cut (X : Arr) (x : FVec Ideal (T6 2 nb 64 d 12 128) .f32) : Prop :=
  ∀ (b : Fin 2) (n : Fin nb) (i : Fin 64) (r : Fin d) (h : Fin 12) (e : Fin 128),
    x (ix6 b n i r h e) = X (ix4 b (pos d (64 * n.val + i.val) r.val) h e)

section attention

variable {L : ℕ} (hL : L = 64 * nb) (hs : nb ≤ 256) {Q K V : Arr} {q k v : FVec Ideal (T6 2 nb 64 d 12 128) .f32}
  (hq : Cut Q q) (hk : Cut K k) (hv : Cut V v) (b : Fin 2)
include hL

/-- The key or value at a place of a query's band. -/
theorem near_cut {X : Arr} {x : FVec Ideal (T6 2 nb 64 d 12 128) .f32} (hx : Cut X x) (n : Fin nb) (i : Fin 64) (r : Fin d) (h : Fin 12)
    (e : Fin 128) (j : Fin 129) (hj : InRange L (64 * n.val + i.val) j.val) :
    near H (padded H x) (ix6 b n ⟨i.val + j.val, by omega⟩ r h e) = X (ix4 b (pos d (64 * n.val + i.val + j.val - 64) r.val) h e) := by
  obtain ⟨h1, h2⟩ := hj
  rw [near_at H x b n ⟨i.val + j.val, by omega⟩ r h e ⟨(64 * n.val + i.val + j.val - 64) / 64, by omega⟩
    ⟨(64 * n.val + i.val + j.val - 64) % 64, by omega⟩ (by simp only; omega), hx]
  exact congrArg (fun z => X (ix4 b (pos d z r.val) h e)) (by simp only; omega)

include hs hq hk

/-- The row of scores of a query holds the scores of its band and −∞ elsewhere. -/
theorem srow_banded (n : Fin nb) (r : Fin d) (h : Fin 12) (i : Fin 64) :
    Banded (n := 129) i.val (by omega) (srow (scores H L q k) b n r h i) (score d L Q K b h r.val (64 * n.val + i.val)) :=
  banded d L Q K b h r.val (64 * n.val + i.val) i.val (by omega) _ (fun e => q (ix6 b n i r h e))
    (fun t e => near H (padded H k) (ix6 b n t r h e)) (fun t => valid H L (ix3 n i t) = 1#1) (masked_at H L q _ b n r h i)
    (valid_at H L (by omega) (by omega) n i) (fun e => hq b n i r h e) fun j hj e => near_cut H hL b hk n i r h e j hj

include hv

/-- An output row is the attention's. -/
theorem rows_at (n : Fin nb) (r : Fin d) (h : Fin 12) (i : Fin 64) (e : Fin 128) :
    rows H L q k v (ix6 b n i r h e) = attnO d L Q K V b h r.val (64 * n.val + i.val) e := by
  refine (out_at H _ _ b n r h i e).trans ((srow_banded H hL hs hq hk b n r h i).rowOut _
    (value d V b h r.val (64 * n.val + i.val) e) fun j => ?_)
  by_cases hj : InRange L (64 * n.val + i.val) j.val
  · right
    exact near_cut H hL b hv n i r h e j hj
  · left
    exact score_bot hj

/-- The output at an entry of the residue classes laid side by side. -/
theorem rows_wide (p c : ℕ) (hp : p / 64 < nb) (hc : c / 1536 < d) :
    rows H L q k v (ix6 b ⟨p / 64, hp⟩ ⟨p % 64, by omega⟩ ⟨c / 1536, hc⟩ ⟨c % 1536 / 128, by omega⟩ ⟨c % 128, by omega⟩) = attnOut d L Q K V b p c := by
  rw [rows_at H hL hs hq hk hv]
  unfold attnOut
  exact congrArg (fun z => attnO d L Q K V b _ _ z _) (by simp only; omega)

omit hv

/-- The log-sum-exp at an entry of the residue classes laid side by side. -/
theorem lse_wide (p c : ℕ) (hp : p / 64 < nb) (hc : c / 128 < d) (hl : c % 128 < 12) :
    byPlace H (sM H (scores H L q k)) (ix5 b ⟨p / 64, hp⟩ ⟨p % 64, by omega⟩ ⟨c / 128, hc⟩ ⟨c % 128, hl⟩)
      + Ideal.log (byPlace H (sD H (scores H L q k)) (ix5 b ⟨p / 64, hp⟩ ⟨p % 64, by omega⟩ ⟨c / 128, hc⟩ ⟨c % 128, hl⟩))
      = attnLse d L Q K b p c := by
  have h := (srow_banded H hL hs hq hk b ⟨p / 64, hp⟩ ⟨c / 128, hc⟩ ⟨c % 128, hl⟩ ⟨p % 64, by omega⟩).rowLse
  have e : 64 * (p / 64) + p % 64 = p := by omega
  simp only [e] at h
  rw [byPlace_at, byPlace_at, sM_at, sD_at]
  unfold attnLse attnLanes
  rw [dif_pos hl]
  exact h

end attention

/-- The lanes after the heads hold zero. -/
theorem lse_rest (L : ℕ) (Q K : Arr) (b : Fin 2) (p c : ℕ) (hl : ¬c % 128 < 12) : attnLse d L Q K b p c = 0 := by
  unfold attnLse attnLanes
  exact dif_neg hl

end Cert.Blocks

end
-- ==== Proof.Ref16Run.lean ====
/- The reference of the pattern with dilation 16: its two results are the banded attention. -/
module

public import proofs.«01_k».proof.Proof.Gen.Reference16Ideal
public import Idealize.ShloMosaic.Lib.StableHlo.RunHlo
public import Idealize.ShloMosaic.Lib.StableHlo.RunRead
public import proofs.«01_k».proof.Proof.Host
public import proofs.«01_k».proof.Proof.Blocks
public import proofs.«01_k».proof.Reference16Ideal

@[expose] public section

set_option maxRecDepth 16384

noncomputable section

open Idealize.ShloMosaic Idealize.ShloMosaic.TcCoe Idealize.SL.Sem

namespace Cert.Ref16

open Cert.Reference16Ideal Cert.Reference16Ideal.Gen Cert.Window Cert.Spec Cert.Words Cert.Blocks

/-- The shapes fit. -/
theorem fits : Fit 16 16 := by constructor <;> decide

/-- An operand cut into blocks of 64 entries of every residue class. -/
def blk (X : FVec Ideal S2x16384x12x128 .f32) : FVec Ideal S2x16x64x16x12x128 .f32 :=
  shapeCast _ (pad S2x1024x16x12x128 ![0, 0, 0, 0, 0] ![0, 0, 0, 0, 0] ![0, 0, 0, 0, 0]
    (shapeCast _ X shapeCasts_S2x16384x12x128_S2x1024x16x12x128) (sitofp .f32 (constantI S_ 32 0#32))
    pads_S2x1024x16x12x128_S2x1024x16x12x128_000_000_000_000_000 h_S_) shapeCasts_S2x1024x16x12x128_S2x16x64x16x12x128

/-- A statistic of the rows, by position in the sequence. -/
def back (x : FVec Ideal S2x16x64x16x12 .f32) : FVec Ideal S2x16384x12 .f32 :=
  shapeCast _ (shapeCast _ x shapeCasts_S2x16x64x16x12_S2x1024x16x12) shapeCasts_S2x1024x16x12_S2x16384x12

/-- The output rows by position in the sequence. -/
def merged (x : FVec Ideal S2x16x64x16x12x128 .f32) : FVec Ideal S2x16384x12x128 .f32 :=
  shapeCast S2x16384x12x128 (shapeCast S2x1024x16x12x128 x shapeCasts_S2x16x64x16x12x128_S2x1024x16x12x128)
    shapeCasts_S2x1024x16x12x128_S2x16384x12x128

/-- The output with the residue classes side by side. -/
def wide (x : FVec Ideal S2x16384x12x128 .f32) : FVec Ideal S2x1024x24576 .f32 :=
  shapeCast S2x1024x24576 x shapeCasts_S2x16384x12x128_S2x1024x24576

/-- The output in its format. -/
def rounded (x : FVec Ideal S2x1024x24576 .f32) : FVec Ideal S2x1024x24576 .bf16 := truncf .bf16 x bitsLt_bf16_f32

/-- The output rows by position in the residue classes. -/
def oArr (x : FVec Ideal S2x16x64x16x12x128 .f32) : FVec Ideal S2x1024x24576 .bf16 := rounded (wide (merged x))

/-- The log-sum-exps, from the maxima and the denominators, on 128 lanes. -/
def lanes (x y : FVec Ideal S2x16x64x16x12 .f32) : FVec Ideal S2x16384x128 .f32 :=
  pad S2x16384x128 ![0, 0, 0] ![0, 0, 116] ![0, 0, 0] (addf (back x) (Host.log (back y)))
    (sitofp .f32 (constantI S_ 32 0#32)) pads_S2x16384x12_S2x16384x128_000_000_01160 h_S_

/-- The log-sum-exps with the residue classes side by side. -/
def wideL (x : FVec Ideal S2x16384x128 .f32) : FVec Ideal S2x1024x2048 .f32 :=
  shapeCast S2x1024x2048 x shapeCasts_S2x16384x128_S2x1024x2048

/-- The log-sum-exps by position in the residue classes. -/
def lArr (x y : FVec Ideal S2x16x64x16x12 .f32) : FVec Ideal S2x1024x2048 .f32 := wideL (lanes x y)

/-- The output array. -/
def oRes (Q K V : FVec Ideal S2x16384x12x128 .f32) : FVec Ideal S2x1024x24576 .bf16 :=
  oArr (rows fits 1024 (blk Q) (blk K) (blk V))

/-- The array of log-sum-exps. -/
def lRes (Q K : FVec Ideal S2x16384x12x128 .f32) : FVec Ideal S2x1024x2048 .f32 :=
  lArr (byPlace fits (sM fits (scores fits 1024 (blk Q) (blk K)))) (byPlace fits (sD fits (scores fits 1024 (blk Q) (blk K))))

/-- The reference's operations in order. -/
def line : {ops : List (HloOp τ sig (Elt Ideal)) // ∀ d, StableHlo.IsSeq (main (F := Ideal) d) ops} := by
  apply Subtype.mk
  hlo_seq

open StableHlo

/-- The operations that cut queries and keys into blocks. -/
def chunkA : List (HloOp τ sig (Elt Ideal)) := line.1.take 10
/-- The operations that cut the neighbouring blocks of keys. -/
def chunkB : List (HloOp τ sig (Elt Ideal)) := (line.1.drop 10).take 6
/-- The operations that join each block of keys to its neighbours. -/
def chunkC : List (HloOp τ sig (Elt Ideal)) := (line.1.drop 16).take 1
/-- The operations that cut the values into blocks. -/
def chunkD : List (HloOp τ sig (Elt Ideal)) := (line.1.drop 17).take 5
/-- The operations that cut the neighbouring blocks of values. -/
def chunkE : List (HloOp τ sig (Elt Ideal)) := (line.1.drop 22).take 6
/-- The operations that join each block of values to its neighbours. -/
def chunkF : List (HloOp τ sig (Elt Ideal)) := (line.1.drop 28).take 1
/-- The operations that make the scores. -/
def chunkG : List (HloOp τ sig (Elt Ideal)) := (line.1.drop 29).take 51
/-- The operations that make the weights. -/
def chunkH : List (HloOp τ sig (Elt Ideal)) := (line.1.drop 80).take 8
/-- The operations that make the output rows. -/
def chunkI : List (HloOp τ sig (Elt Ideal)) := (line.1.drop 88).take 7
/-- The operations that put the rows back in sequence. -/
def chunkJ : List (HloOp τ sig (Elt Ideal)) := (line.1.drop 95).take 11
/-- The operations that lay the output out. -/
def chunkK : List (HloOp τ sig (Elt Ideal)) := (line.1.drop 106).take 1
/-- The operations that finish the two results. -/
def chunkL : List (HloOp τ sig (Elt Ideal)) := line.1.drop 107

variable (V : Valuation τ sig (Elt Ideal))

/-- The blocks of queries and of keys. -/
theorem pieceA : after chunkA V (Proc.devRef .tc main_v2) = blk (V (Proc.devRef .tc main_arg0))
    ∧ after chunkA V (Proc.devRef .tc main_v5) = blk (V (Proc.devRef .tc main_arg1))
    ∧ after chunkA V (Proc.devRef .tc main_arg2) = V (Proc.devRef .tc main_arg2) := by
  refine ⟨?_, ?_, ?_⟩ <;> after_reads_simp
  all_goals
    try simp only [TRef.ofBuf_toBuf]
    try dsimp only [TRef.toBuf, TRef.ofBuf]
    try simp only [cast_eq]
    rfl

/-- Neighbouring blocks of keys. -/
theorem pieceB : after chunkB V (Proc.devRef .tc main_v7) = before fits (padded fits (V (Proc.devRef .tc main_v5)))
    ∧ after chunkB V (Proc.devRef .tc main_v8) = same fits (padded fits (V (Proc.devRef .tc main_v5)))
    ∧ after chunkB V (Proc.devRef .tc main_v9) = behind fits (padded fits (V (Proc.devRef .tc main_v5)))
    ∧ after chunkB V (Proc.devRef .tc main_v2) = V (Proc.devRef .tc main_v2)
    ∧ after chunkB V (Proc.devRef .tc main_arg2) = V (Proc.devRef .tc main_arg2) := by
  refine ⟨?_, ?_, ?_, ?_, ?_⟩ <;> after_reads_simp
  all_goals
    try simp only [TRef.ofBuf_toBuf]
    try dsimp only [TRef.toBuf, TRef.ofBuf]
    try simp only [cast_eq]
    rfl

/-- The keys each block meets. -/
theorem pieceC : after chunkC V (Proc.devRef .tc main_v10) = join fits (V (Proc.devRef .tc main_v7)) (V (Proc.devRef .tc main_v8)) (V (Proc.devRef .tc main_v9))
    ∧ after chunkC V (Proc.devRef .tc main_v2) = V (Proc.devRef .tc main_v2)
    ∧ after chunkC V (Proc.devRef .tc main_arg2) = V (Proc.devRef .tc main_arg2) := by
  refine ⟨?_, ?_, ?_⟩ <;> after_reads_simp
  all_goals
    try simp only [TRef.ofBuf_toBuf]
    try dsimp only [TRef.toBuf, TRef.ofBuf]
    try simp only [cast_eq]
    rfl

/-- The blocks of values. -/
theorem pieceD : after chunkD V (Proc.devRef .tc main_v13) = blk (V (Proc.devRef .tc main_arg2))
    ∧ after chunkD V (Proc.devRef .tc main_v2) = V (Proc.devRef .tc main_v2)
    ∧ after chunkD V (Proc.devRef .tc main_v10) = V (Proc.devRef .tc main_v10) := by
  refine ⟨?_, ?_, ?_⟩ <;> after_reads_simp
  all_goals
    try simp only [TRef.ofBuf_toBuf]
    try dsimp only [TRef.toBuf, TRef.ofBuf]
    try simp only [cast_eq]
    rfl

/-- Neighbouring blocks of values. -/
theorem pieceE : after chunkE V (Proc.devRef .tc main_v15) = before fits (padded fits (V (Proc.devRef .tc main_v13)))
    ∧ after chunkE V (Proc.devRef .tc main_v16) = same fits (padded fits (V (Proc.devRef .tc main_v13)))
    ∧ after chunkE V (Proc.devRef .tc main_v17) = behind fits (padded fits (V (Proc.devRef .tc main_v13)))
    ∧ after chunkE V (Proc.devRef .tc main_v2) = V (Proc.devRef .tc main_v2)
    ∧ after chunkE V (Proc.devRef .tc main_v10) = V (Proc.devRef .tc main_v10) := by
  refine ⟨?_, ?_, ?_, ?_, ?_⟩ <;> after_reads_simp
  all_goals
    try simp only [TRef.ofBuf_toBuf]
    try dsimp only [TRef.toBuf, TRef.ofBuf]
    try simp only [cast_eq]
    rfl

/-- The values each block meets. -/
theorem pieceF : after chunkF V (Proc.devRef .tc main_v18) = join fits (V (Proc.devRef .tc main_v15)) (V (Proc.devRef .tc main_v16)) (V (Proc.devRef .tc main_v17))
    ∧ after chunkF V (Proc.devRef .tc main_v2) = V (Proc.devRef .tc main_v2)
    ∧ after chunkF V (Proc.devRef .tc main_v10) = V (Proc.devRef .tc main_v10) := by
  refine ⟨?_, ?_, ?_⟩ <;> after_reads_simp
  all_goals
    try simp only [TRef.ofBuf_toBuf]
    try dsimp only [TRef.toBuf, TRef.ofBuf]
    try simp only [cast_eq]
    rfl

/-- The masked scores. -/
theorem pieceG : after chunkG V (Proc.devRef .tc main_v59) = masked fits 1024 (V (Proc.devRef .tc main_v2)) (V (Proc.devRef .tc main_v10))
    ∧ after chunkG V (Proc.devRef .tc main_v18) = V (Proc.devRef .tc main_v18) := by
  refine ⟨?_, ?_⟩ <;> after_reads_simp
  all_goals
    try simp only [TRef.ofBuf_toBuf]
    try dsimp only [TRef.toBuf, TRef.ofBuf]
    try simp only [cast_eq]
    rfl

/-- The maxima, the weights and the denominators. -/
theorem pieceH : after chunkH V (Proc.devRef .tc main_v60) = sM fits (V (Proc.devRef .tc main_v59))
    ∧ after chunkH V (Proc.devRef .tc main_v64) = sP fits (V (Proc.devRef .tc main_v59))
    ∧ after chunkH V (Proc.devRef .tc main_v65) = sD fits (V (Proc.devRef .tc main_v59))
    ∧ after chunkH V (Proc.devRef .tc main_v18) = V (Proc.devRef .tc main_v18) := by
  refine ⟨?_, ?_, ?_, ?_⟩ <;> after_reads_simp
  all_goals
    try simp only [TRef.ofBuf_toBuf]
    try dsimp only [TRef.toBuf, TRef.ofBuf]
    try simp only [cast_eq]
    rfl

/-- The output rows, and the maxima and denominators by place. -/
theorem pieceI : after chunkI V (Proc.devRef .tc main_v72) = outRows fits (V (Proc.devRef .tc main_v64)) (V (Proc.devRef .tc main_v65)) (V (Proc.devRef .tc main_v18))
    ∧ after chunkI V (Proc.devRef .tc main_v66) = byPlace fits (V (Proc.devRef .tc main_v60))
    ∧ after chunkI V (Proc.devRef .tc main_v67) = byPlace fits (V (Proc.devRef .tc main_v65)) := by
  refine ⟨?_, ?_, ?_⟩ <;> after_reads_simp
  all_goals
    try simp only [TRef.ofBuf_toBuf]
    try dsimp only [TRef.toBuf, TRef.ofBuf]
    try simp only [cast_eq]
    rfl

/-- The output rows and the log-sum-exps by position. -/
theorem pieceJ : after chunkJ V (Proc.devRef .tc main_v74) = merged (V (Proc.devRef .tc main_v72))
    ∧ after chunkJ V (Proc.devRef .tc main_v81) = lanes (V (Proc.devRef .tc main_v66)) (V (Proc.devRef .tc main_v67)) := by
  refine ⟨?_, ?_⟩ <;> after_reads_simp
  all_goals
    try simp only [TRef.ofBuf_toBuf]
    try dsimp only [TRef.toBuf, TRef.ofBuf]
    try simp only [cast_eq]
    rfl

/-- The output by residue class. -/
theorem pieceK : after chunkK V (Proc.devRef .tc main_v82) = wide (V (Proc.devRef .tc main_v74))
    ∧ after chunkK V (Proc.devRef .tc main_v81) = V (Proc.devRef .tc main_v81) := by
  refine ⟨?_, ?_⟩ <;> after_reads_simp
  all_goals
    try simp only [TRef.ofBuf_toBuf]
    try dsimp only [TRef.toBuf, TRef.ofBuf]
    try simp only [cast_eq]
    rfl

/-- The two results. -/
theorem pieceL : after chunkL V (Proc.devRef .tc main_v83) = rounded (V (Proc.devRef .tc main_v82))
    ∧ after chunkL V (Proc.devRef .tc main_v84) = wideL (V (Proc.devRef .tc main_v81)) := by
  refine ⟨?_, ?_⟩ <;> after_reads_simp
  all_goals
    try simp only [TRef.ofBuf_toBuf]
    try dsimp only [TRef.toBuf, TRef.ofBuf]
    try simp only [cast_eq]
    rfl

/-- The reference's operations, piece by piece. -/
theorem after_line : after line.1 V
    = after chunkL (after chunkK (after chunkJ (after chunkI (after chunkH (after chunkG (after chunkF (after chunkE (after chunkD (after chunkC (after chunkB (after chunkA V))))))))))) := by
  rw [Cert.Host.after_cut V 10,
    Cert.Host.after_cut _ 6 (line.1.drop 10), List.drop_drop,
    Cert.Host.after_cut _ 1 (line.1.drop 16), List.drop_drop,
    Cert.Host.after_cut _ 5 (line.1.drop 17), List.drop_drop,
    Cert.Host.after_cut _ 6 (line.1.drop 22), List.drop_drop,
    Cert.Host.after_cut _ 1 (line.1.drop 28), List.drop_drop,
    Cert.Host.after_cut _ 51 (line.1.drop 29), List.drop_drop,
    Cert.Host.after_cut _ 8 (line.1.drop 80), List.drop_drop,
    Cert.Host.after_cut _ 7 (line.1.drop 88), List.drop_drop,
    Cert.Host.after_cut _ 11 (line.1.drop 95), List.drop_drop,
    Cert.Host.after_cut _ 1 (line.1.drop 106), List.drop_drop]
  rfl

/-- The output of the whole line. -/
theorem line_v83 : after line.1 V (Proc.devRef .tc main_v83)
    = oRes (V (Proc.devRef .tc main_arg0)) (V (Proc.devRef .tc main_arg1)) (V (Proc.devRef .tc main_arg2)) := by
  rw [after_line, (pieceL _).1, (pieceK _).1, (pieceJ _).1, (pieceI _).1, (pieceH _).2.1, (pieceH _).2.2.1, (pieceH _).2.2.2, (pieceG _).1, (pieceG _).2, (pieceF _).2.1, (pieceF _).2.2, (pieceF _).1, (pieceE _).2.2.2.1, (pieceE _).2.2.2.2, (pieceE _).1, (pieceE _).2.1, (pieceE _).2.2.1,
    (pieceD _).2.1, (pieceD _).2.2, (pieceD _).1, (pieceC _).2.1, (pieceC _).1, (pieceC _).2.2, (pieceB _).2.2.2.1, (pieceB _).1, (pieceB _).2.1, (pieceB _).2.2.1, (pieceB _).2.2.2.2, (pieceA _).1, (pieceA _).2.1, (pieceA _).2.2]
  rfl

/-- The log-sum-exps of the whole line. -/
theorem line_v84 : after line.1 V (Proc.devRef .tc main_v84)
    = lRes (V (Proc.devRef .tc main_arg0)) (V (Proc.devRef .tc main_arg1)) := by
  rw [after_line, (pieceL _).2, (pieceK _).2, (pieceJ _).2, (pieceI _).2.1, (pieceI _).2.2, (pieceH _).1, (pieceH _).2.2.1, (pieceG _).1, (pieceF _).2.1, (pieceF _).2.2, (pieceE _).2.2.2.1, (pieceE _).2.2.2.2,
    (pieceD _).2.1, (pieceD _).2.2, (pieceC _).2.1, (pieceC _).1, (pieceB _).2.2.2.1, (pieceB _).1, (pieceB _).2.1, (pieceB _).2.2.1, (pieceA _).1, (pieceA _).2.1]
  rfl

/-- Every run of the reference ends with its two results at those arrays and its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v83) = oRes (m ((c.tc : Thread nD τ).loc main_arg0)) (m ((c.tc : Thread nD τ).loc main_arg1)) (m ((c.tc : Thread nD τ).loc main_arg2))
      ∧ r.2.mem ((c.tc : Thread nD τ).loc main_v84) = lRes (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine θ_run_mono (StableHlo.run_hlo defs main line.2 (by decide) (by decide) (by unfold line; simp)
    (by unfold line; intro _ h; (repeat (cases h with | head => rfl | tail _ h => ?_)); exact nomatch h) m ρ) fun r h c => ?_
  refine ⟨(h c main_v83).trans (line_v83 _), (h c main_v84).trans (line_v84 _), (h c main_arg0).trans ?_, (h c main_arg1).trans ?_, (h c main_arg2).trans ?_⟩
  all_goals after_reads_simp

end Cert.Ref16

end
-- ==== Proof.Ref16.lean ====
/- The reference of the pattern with dilation 16: its two results are the banded attention. -/
module

public import proofs.«01_k».proof.Proof.Ref16Run

@[expose] public section

set_option maxRecDepth 16384

noncomputable section

open Idealize.ShloMosaic Idealize.ShloMosaic.TcCoe Idealize.SL.Sem

namespace Cert.Ref16

open Cert.Reference16Ideal Cert.Reference16Ideal.Gen Cert.Window Cert.Spec Cert.Words Cert.Blocks

/-- The blocks are the operand's. -/
theorem cut (X : Arr) : Cut X (blk X) := by
  intro b n i r h e
  pointwise [blk]
  rw [dif_pos (by omega)]
  exact congrArg (fun z => X (ix4 b z h e)) (Fin.ext (by simp only [pos]; omega))

/-- The output at a position. -/
theorem o_at (x : FVec Ideal S2x16x64x16x12x128 .f32) (b : Fin 2) (p : Fin 1024) (c : Fin 24576) :
    oArr x (ix3 b p c) = x (ix6 b ⟨p.val / 64, by omega⟩ ⟨p.val % 64, by omega⟩ ⟨c.val / 1536, by omega⟩ ⟨c.val % 1536 / 128, by omega⟩ ⟨c.val % 128, by omega⟩) := by
  pointwise [oArr, rounded, wide, merged]
  exact congrArg (fun z => x (ix6 b _ _ _ z _)) (Fin.ext (by simp only; omega))

/-- A log-sum-exp at a position. -/
theorem l_at (x y : FVec Ideal S2x16x64x16x12 .f32) (b : Fin 2) (p : Fin 1024) (c : Fin 2048) :
    lArr x y (ix3 b p c) = if hc : c.val % 128 < 12 then
      x (ix5 b ⟨p.val / 64, by omega⟩ ⟨p.val % 64, by omega⟩ ⟨c.val / 128, by omega⟩ ⟨c.val % 128, hc⟩)
        + Ideal.log (y (ix5 b ⟨p.val / 64, by omega⟩ ⟨p.val % 64, by omega⟩ ⟨c.val / 128, by omega⟩ ⟨c.val % 128, hc⟩)) else 0 := by
  pointwise [lArr, wideL, lanes, back]
  by_cases hc : c.val % 128 < 12
  · rw [dif_pos ⟨by omega, hc⟩, dif_pos hc]
    have hx : ∀ (z : FVec Ideal S2x16x64x16x12 .f32) (n : Fin 16) (i : Fin 64) (r : Fin 16), n.val = p.val / 64 → i.val = p.val % 64 → r.val = c.val / 128 →
        z (ix5 b n i r ⟨c.val % 128, hc⟩) = z (ix5 b ⟨p.val / 64, by omega⟩ ⟨p.val % 64, by omega⟩ ⟨c.val / 128, by omega⟩ ⟨c.val % 128, hc⟩) :=
      fun z n i r hn hi hr => by rw [Fin.ext (b := ⟨p.val / 64, by omega⟩) hn, Fin.ext (b := ⟨p.val % 64, by omega⟩) hi, Fin.ext (b := ⟨c.val / 128, by omega⟩) hr]
    refine congrArg₂ (fun u v => u + Ideal.log v) (hx x _ _ _ ?_ ?_ ?_) (hx y _ _ _ ?_ ?_ ?_) <;> (simp only; omega)
  · rw [dif_neg fun hh => hc hh.2, dif_neg hc]
    show (((0#32 : BitVec 32).toInt : ℝ) : EReal) = 0
    simp

/-- The reference's output is the attention's. -/
theorem final_o (Q K V : Arr) : oRes Q K V = fun i : S2x1024x24576.Idx =>
    attnOut 16 1024 Q K V ⟨(i 0).val, (i 0).isLt⟩ (i 1).val (i 2).val := by
  funext y
  obtain ⟨b, p, c, rfl⟩ : ∃ b p c, y = ix3 b p c := ⟨y 0, y 1, y 2, by funext a; fin_cases a <;> rfl⟩
  unfold oRes
  rw [o_at]
  exact rows_wide fits rfl (by decide) (cut Q) (cut K) (cut V) b p.val c.val (by omega) (by omega)

/-- The reference's log-sum-exps are the attention's. -/
theorem final_l (Q K : Arr) : lRes Q K = fun i : S2x1024x2048.Idx =>
    attnLse 16 1024 Q K ⟨(i 0).val, (i 0).isLt⟩ (i 1).val (i 2).val := by
  funext y
  obtain ⟨b, p, c, rfl⟩ : ∃ b p c, y = ix3 b p c := ⟨y 0, y 1, y 2, by funext a; fin_cases a <;> rfl⟩
  unfold lRes
  rw [l_at]
  by_cases hc : c.val % 128 < 12
  · rw [dif_pos hc]
    exact lse_wide fits rfl (by decide) (cut Q) (cut K) b p.val c.val (by omega) (by omega) hc
  · rw [dif_neg hc]
    exact (lse_rest 1024 Q K b p.val c.val hc).symm

end Cert.Ref16

end
-- ==== Proof.Claims16.lean ====
/- The claims about the pattern with dilation 16. -/
module

public import proofs.«01_k».proof.Defs
public import proofs.«01_k».proof.Proof.Dil16
public import proofs.«01_k».proof.Proof.Ref16
public import proofs.«01_k».proof.Proof.Gen.Kernel16.Frame
public import proofs.«01_k».proof.Proof.Gen.Kernel16Ideal.Frame
public import proofs.«01_k».proof.Proof.Gen.Kernel16Ideal.Value
public import Idealize.ShloMosaic.Adequacy
public import Idealize.ShloMosaic.Init
public import Idealize.ShloMosaic.Lib.Quiescent

@[expose] public section

noncomputable section

namespace Cert.Claims16

open Idealize.ShloMosaic Idealize.SL.Sem

/-- The kernel runs, its arguments unchanged. -/
theorem frame_p : Cert.quiescent_Kernel16 := fun m ρ _ => Cert.Kernel16.Gen.frame m ρ

/-- The idealised kernel runs, its arguments unchanged. -/
theorem frame_pi : Cert.quiescent_Kernel16Ideal := fun m ρ _ => Cert.Kernel16Ideal.Gen.frame m ρ

/-- The reference runs, its arguments unchanged. -/
theorem frame_ri : Cert.quiescent_Reference16Ideal := fun m ρ _ =>
  (θ_run Cert.Reference16Ideal.defs _ _).mono
    (fun r h => ⟨fun c => (h c).2.2, Idealize.ShloMosaic.sem_eq_zero_of_no_sems (by decide) r.2⟩) (Cert.Ref16.run m ρ)

/-- The mask is a constant that the idealised kernel names −∞. -/
theorem preserves : Cert.preserves_Kernel16_Kernel16Ideal :=
  IdealRules.named_const.statement Cert.Kernel16Ideal.κ "mask" .f32 0xF149F2CA#32 ⊥ rfl

/-- The idealised kernel and the reference end with equal results. -/
theorem algebraic : Cert.algebraic_Kernel16Ideal_Reference16Ideal := by
  intro m g m' g' _ hagree
  refine ⟨_, _, Cert.Kernel16Ideal.Value.run_blocks m g, θ_run_mono (Cert.Ref16.run m' g') fun r h c => ?_⟩
  obtain ⟨ho, hl, hargs⟩ := h c
  obtain ⟨e0, e1, e2⟩ := hagree c
  refine ⟨?_, ?_, hargs⟩
  · refine Eq.trans ?_ (Cert.Dil16.final_o m c).symm
    rw [ho, Cert.Ref16.final_o, e0, e1, e2]
  · refine Eq.trans ?_ (Cert.Dil16.final_l m c).symm
    rw [hl, Cert.Ref16.final_l, e0, e1]

end Cert.Claims16

end
-- ==== Proof.Dil4.lean ====
/- The dilated attention's kernel of the pattern with dilation 4: its two result arrays are the banded attention. -/
module

public import proofs.«01_k».proof.Proof.Gen.Kernel4Ideal.Frame
public import proofs.«01_k».proof.Proof.Body

@[expose] public section

set_option maxRecDepth 16384

noncomputable section

open Idealize.ShloMosaic Idealize.ShloMosaic.TcCoe Idealize.SL.Sem
open Idealize.ShloMosaic.Pipeline (Dat)

namespace Cert.Dil4

open Cert.Kernel4Ideal Cert.Kernel4Ideal.Gen Cert.Spec Cert.Tile Cert.Body Cert.Words

variable (m : (ℓ : Loc nD τ sig) → Buf (Elt Ideal) ℓ)

/-- Where every window's block lies, by the grid point's number. -/
theorem idx : ∀ t : Fin cfg0.N,
    win0_0.index t = ![t.val / 32, t.val % 8, t.val / 8 % 4] ∧ win0_1.index t = ![t.val / 32, t.val % 8, t.val / 8 % 4]
    ∧ win0_2.index t = ![t.val / 32, 8 * (t.val % 8) - 1, t.val / 8 % 4] ∧ win0_3.index t = ![t.val / 32, min (8 * (t.val % 8) + 8) 63, t.val / 8 % 4]
    ∧ win0_4.index t = ![t.val / 32, t.val % 8, t.val / 8 % 4]
    ∧ win0_5.index t = ![t.val / 32, 8 * (t.val % 8) - 1, t.val / 8 % 4] ∧ win0_6.index t = ![t.val / 32, min (8 * (t.val % 8) + 8) 63, t.val / 8 % 4]
    ∧ win0_7.index t = ![t.val / 32, t.val % 8, t.val / 8 % 4] ∧ win0_8.index t = ![t.val / 32, t.val % 8, t.val / 8 % 4]
    ∧ (grid0.coords t 2).val = t.val % 8 ∧ t.val / 32 < 2 :=
  (by decide +kernel : ∀ t : Fin grid0.N, _)

/-- The host's layout of an operand, read at an index. -/
theorem lay (A : Arr) (b : Fin 2) (p r : ℕ) (h : Fin 12) (e : Fin 128) (hp : p < 4096) (hr : r < 4) :
    shapeCast S2x4096x6144 (truncf .bf16 A bitsLt_bf16_f32) shapeCasts_S2x16384x12x128_S2x4096x6144
      (ix3 b ⟨p, hp⟩ ⟨1536 * r + 128 * h.val + e.val, by omega⟩) = A (ix4 b (pos 4 p r) h e) := by
  pointwise []
  exact congrArg (fun z => A (ix4 b z h e)) (Fin.ext (by simp only [pos]; omega))

/-- The staged blocks of grid point `t`. -/
theorem blocks (c : Dev nD) (t : Fin cfg0.N) :
    Blocks 4 4096 (m ((c : Thread nD τ).loc main_arg0)) (m ((c : Thread nD τ).loc main_arg1)) (m ((c : Thread nD τ).loc main_arg2))
      ⟨t.val / 32, (idx t).2.2.2.2.2.2.2.2.2.2⟩ (t.val / 8 % 4) (t.val % 8)
      (iblk m c 0 t) (iblk m c 1 t) (iblk m c 2 t) (iblk m c 3 t) (iblk m c 4 t) (iblk m c 5 t) (iblk m c 6 t) := by
  constructor <;> intros <;>
  · refine Eq.trans ?_ (lay _ _ _ _ _ _ (by omega) (by omega))
    blk_simp [iblk]
    entry_read
    refine congrArg (shapeCast _ _ _) ?_
    blk_ext [idx t]

/-- The masks of grid point `t`. -/
theorem masks_at (t : Fin cfg0.N) (j : Fin 4) : MaskOk 4096 (t.val % 8) (128 * j.val) (masks (grid0.coords t 2).val 7 j) := by
  rw [(idx t).2.2.2.2.2.2.2.2.2.1]
  exact masks_ok (t.val % 8) 7 (by omega) (by decide) j

set_option maxHeartbeats 1600000 in
/-- What a grid point stores in the output window is the attention there. -/
theorem point_o (c : Dev nD) (t : Fin cfg0.N) (y : S1x512x1536.Idx) :
    out0_7 (grid0.coords t) (iblk m c 0 t) (iblk m c 1 t) (iblk m c 2 t) (iblk m c 3 t) (iblk m c 4 t) (iblk m c 5 t) (iblk m c 6 t) y
      = blkO 4 4096 (m ((c : Thread nD τ).loc main_arg0)) (m ((c : Thread nD τ).loc main_arg1)) (m ((c : Thread nD τ).loc main_arg2))
          ⟨t.val / 32, (idx t).2.2.2.2.2.2.2.2.2.2⟩ (t.val / 8 % 4) (t.val % 8) y :=
  outO_eq (blocks m c t) (masks_at t) y

set_option maxHeartbeats 1600000 in
/-- What a grid point stores in the log-sum window is the attention's there. -/
theorem point_l (c : Dev nD) (t : Fin cfg0.N) (y : S1x512x128.Idx) :
    out0_8 (grid0.coords t) (iblk m c 0 t) (iblk m c 1 t) (iblk m c 2 t) (iblk m c 3 t) (iblk m c 4 t) (iblk m c 5 t) (iblk m c 6 t) y
      = blkL 4 4096 (m ((c : Thread nD τ).loc main_arg0)) (m ((c : Thread nD τ).loc main_arg1))
          ⟨t.val / 32, (idx t).2.2.2.2.2.2.2.2.2.2⟩ (t.val / 8 % 4) (t.val % 8) (y 1) (y 2) :=
  outL_eq (blocks m c t) (masks_at t) y

/-- The output array after the run is the attention. -/
theorem final_o (c : Dev nD) : (dats m 0 c).arrAt 7 cfg0.N = fun i : S2x4096x6144.Idx =>
    attnOut 4 4096 (m ((c : Thread nD τ).loc main_arg0)) (m ((c : Thread nD τ).loc main_arg1)) (m ((c : Thread nD τ).loc main_arg2))
      ⟨(i 0).val, (i 0).isLt⟩ (i 1).val (i 2).val := by
  refine (dats m 0 c).arrAt_eq_of_covers 7 _ (by decide +kernel) fun t hf y => ?_
  blk_simp
  rw [after0_7]
  refine (point_o m c t y).trans (blkO_eq 4 4096 _ _ _ _ _ _ _ _ _ y ?_ ?_ ?_) <;> simp [idx t, Nat.mul_comm]

/-- The array of log-sum-exps after the run is the attention's. -/
theorem final_l (c : Dev nD) : (dats m 0 c).arrAt 8 cfg0.N = fun i : S2x4096x512.Idx =>
    attnLse 4 4096 (m ((c : Thread nD τ).loc main_arg0)) (m ((c : Thread nD τ).loc main_arg1))
      ⟨(i 0).val, (i 0).isLt⟩ (i 1).val (i 2).val := by
  refine (dats m 0 c).arrAt_eq_of_covers 8 _ (by decide +kernel) fun t hf y => ?_
  blk_simp
  rw [after0_8]
  refine (point_l m c t y).trans (blkL_eq 4 4096 _ _ _ _ _ _ _ _ _ _ ?_ ?_ ?_) <;> simp [idx t, Nat.mul_comm]

end Cert.Dil4

end
-- ==== Proof.Ref4Run.lean ====
/- The reference of the pattern with dilation 4: its two results are the banded attention. -/
module

public import proofs.«01_k».proof.Proof.Gen.Reference4Ideal
public import Idealize.ShloMosaic.Lib.StableHlo.RunHlo
public import Idealize.ShloMosaic.Lib.StableHlo.RunRead
public import proofs.«01_k».proof.Proof.Host
public import proofs.«01_k».proof.Proof.Blocks
public import proofs.«01_k».proof.Reference4Ideal

@[expose] public section

set_option maxRecDepth 16384

noncomputable section

open Idealize.ShloMosaic Idealize.ShloMosaic.TcCoe Idealize.SL.Sem

namespace Cert.Ref4

open Cert.Reference4Ideal Cert.Reference4Ideal.Gen Cert.Window Cert.Spec Cert.Words Cert.Blocks

/-- The shapes fit. -/
theorem fits : Fit 64 4 := by constructor <;> decide

/-- An operand cut into blocks of 64 entries of every residue class. -/
def blk (X : FVec Ideal S2x16384x12x128 .f32) : FVec Ideal S2x64x64x4x12x128 .f32 :=
  shapeCast _ (pad S2x4096x4x12x128 ![0, 0, 0, 0, 0] ![0, 0, 0, 0, 0] ![0, 0, 0, 0, 0]
    (shapeCast _ X shapeCasts_S2x16384x12x128_S2x4096x4x12x128) (sitofp .f32 (constantI S_ 32 0#32))
    pads_S2x4096x4x12x128_S2x4096x4x12x128_000_000_000_000_000 h_S_) shapeCasts_S2x4096x4x12x128_S2x64x64x4x12x128

/-- A statistic of the rows, by position in the sequence. -/
def back (x : FVec Ideal S2x64x64x4x12 .f32) : FVec Ideal S2x16384x12 .f32 :=
  shapeCast _ (shapeCast _ x shapeCasts_S2x64x64x4x12_S2x4096x4x12) shapeCasts_S2x4096x4x12_S2x16384x12

/-- The output rows by position in the sequence. -/
def merged (x : FVec Ideal S2x64x64x4x12x128 .f32) : FVec Ideal S2x16384x12x128 .f32 :=
  shapeCast S2x16384x12x128 (shapeCast S2x4096x4x12x128 x shapeCasts_S2x64x64x4x12x128_S2x4096x4x12x128)
    shapeCasts_S2x4096x4x12x128_S2x16384x12x128

/-- The output with the residue classes side by side. -/
def wide (x : FVec Ideal S2x16384x12x128 .f32) : FVec Ideal S2x4096x6144 .f32 :=
  shapeCast S2x4096x6144 x shapeCasts_S2x16384x12x128_S2x4096x6144

/-- The output in its format. -/
def rounded (x : FVec Ideal S2x4096x6144 .f32) : FVec Ideal S2x4096x6144 .bf16 := truncf .bf16 x bitsLt_bf16_f32

/-- The output rows by position in the residue classes. -/
def oArr (x : FVec Ideal S2x64x64x4x12x128 .f32) : FVec Ideal S2x4096x6144 .bf16 := rounded (wide (merged x))

/-- The log-sum-exps, from the maxima and the denominators, on 128 lanes. -/
def lanes (x y : FVec Ideal S2x64x64x4x12 .f32) : FVec Ideal S2x16384x128 .f32 :=
  pad S2x16384x128 ![0, 0, 0] ![0, 0, 116] ![0, 0, 0] (addf (back x) (Host.log (back y)))
    (sitofp .f32 (constantI S_ 32 0#32)) pads_S2x16384x12_S2x16384x128_000_000_01160 h_S_

/-- The log-sum-exps with the residue classes side by side. -/
def wideL (x : FVec Ideal S2x16384x128 .f32) : FVec Ideal S2x4096x512 .f32 :=
  shapeCast S2x4096x512 x shapeCasts_S2x16384x128_S2x4096x512

/-- The log-sum-exps by position in the residue classes. -/
def lArr (x y : FVec Ideal S2x64x64x4x12 .f32) : FVec Ideal S2x4096x512 .f32 := wideL (lanes x y)

/-- The output array. -/
def oRes (Q K V : FVec Ideal S2x16384x12x128 .f32) : FVec Ideal S2x4096x6144 .bf16 :=
  oArr (rows fits 4096 (blk Q) (blk K) (blk V))

/-- The array of log-sum-exps. -/
def lRes (Q K : FVec Ideal S2x16384x12x128 .f32) : FVec Ideal S2x4096x512 .f32 :=
  lArr (byPlace fits (sM fits (scores fits 4096 (blk Q) (blk K)))) (byPlace fits (sD fits (scores fits 4096 (blk Q) (blk K))))

/-- The reference's operations in order. -/
def line : {ops : List (HloOp τ sig (Elt Ideal)) // ∀ d, StableHlo.IsSeq (main (F := Ideal) d) ops} := by
  apply Subtype.mk
  hlo_seq

open StableHlo

/-- The operations that cut queries and keys into blocks. -/
def chunkA : List (HloOp τ sig (Elt Ideal)) := line.1.take 10
/-- The operations that cut the neighbouring blocks of keys. -/
def chunkB : List (HloOp τ sig (Elt Ideal)) := (line.1.drop 10).take 6
/-- The operations that join each block of keys to its neighbours. -/
def chunkC : List (HloOp τ sig (Elt Ideal)) := (line.1.drop 16).take 1
/-- The operations that cut the values into blocks. -/
def chunkD : List (HloOp τ sig (Elt Ideal)) := (line.1.drop 17).take 5
/-- The operations that cut the neighbouring blocks of values. -/
def chunkE : List (HloOp τ sig (Elt Ideal)) := (line.1.drop 22).take 6
/-- The operations that join each block of values to its neighbours. -/
def chunkF : List (HloOp τ sig (Elt Ideal)) := (line.1.drop 28).take 1
/-- The operations that make the scores. -/
def chunkG : List (HloOp τ sig (Elt Ideal)) := (line.1.drop 29).take 51
/-- The operations that make the weights. -/
def chunkH : List (HloOp τ sig (Elt Ideal)) := (line.1.drop 80).take 8
/-- The operations that make the output rows. -/
def chunkI : List (HloOp τ sig (Elt Ideal)) := (line.1.drop 88).take 7
/-- The operations that put the rows back in sequence. -/
def chunkJ : List (HloOp τ sig (Elt Ideal)) := (line.1.drop 95).take 11
/-- The operations that lay the output out. -/
def chunkK : List (HloOp τ sig (Elt Ideal)) := (line.1.drop 106).take 1
/-- The operations that finish the two results. -/
def chunkL : List (HloOp τ sig (Elt Ideal)) := line.1.drop 107

variable (V : Valuation τ sig (Elt Ideal))

/-- The blocks of queries and of keys. -/
theorem pieceA : after chunkA V (Proc.devRef .tc main_v2) = blk (V (Proc.devRef .tc main_arg0))
    ∧ after chunkA V (Proc.devRef .tc main_v5) = blk (V (Proc.devRef .tc main_arg1))
    ∧ after chunkA V (Proc.devRef .tc main_arg2) = V (Proc.devRef .tc main_arg2) := by
  refine ⟨?_, ?_, ?_⟩ <;> after_reads_simp
  all_goals
    try simp only [TRef.ofBuf_toBuf]
    try dsimp only [TRef.toBuf, TRef.ofBuf]
    try simp only [cast_eq]
    rfl

/-- Neighbouring blocks of keys. -/
theorem pieceB : after chunkB V (Proc.devRef .tc main_v7) = before fits (padded fits (V (Proc.devRef .tc main_v5)))
    ∧ after chunkB V (Proc.devRef .tc main_v8) = same fits (padded fits (V (Proc.devRef .tc main_v5)))
    ∧ after chunkB V (Proc.devRef .tc main_v9) = behind fits (padded fits (V (Proc.devRef .tc main_v5)))
    ∧ after chunkB V (Proc.devRef .tc main_v2) = V (Proc.devRef .tc main_v2)
    ∧ after chunkB V (Proc.devRef .tc main_arg2) = V (Proc.devRef .tc main_arg2) := by
  refine ⟨?_, ?_, ?_, ?_, ?_⟩ <;> after_reads_simp
  all_goals
    try simp only [TRef.ofBuf_toBuf]
    try dsimp only [TRef.toBuf, TRef.ofBuf]
    try simp only [cast_eq]
    rfl

/-- The keys each block meets. -/
theorem pieceC : after chunkC V (Proc.devRef .tc main_v10) = join fits (V (Proc.devRef .tc main_v7)) (V (Proc.devRef .tc main_v8)) (V (Proc.devRef .tc main_v9))
    ∧ after chunkC V (Proc.devRef .tc main_v2) = V (Proc.devRef .tc main_v2)
    ∧ after chunkC V (Proc.devRef .tc main_arg2) = V (Proc.devRef .tc main_arg2) := by
  refine ⟨?_, ?_, ?_⟩ <;> after_reads_simp
  all_goals
    try simp only [TRef.ofBuf_toBuf]
    try dsimp only [TRef.toBuf, TRef.ofBuf]
    try simp only [cast_eq]
    rfl

/-- The blocks of values. -/
theorem pieceD : after chunkD V (Proc.devRef .tc main_v13) = blk (V (Proc.devRef .tc main_arg2))
    ∧ after chunkD V (Proc.devRef .tc main_v2) = V (Proc.devRef .tc main_v2)
    ∧ after chunkD V (Proc.devRef .tc main_v10) = V (Proc.devRef .tc main_v10) := by
  refine ⟨?_, ?_, ?_⟩ <;> after_reads_simp
  all_goals
    try simp only [TRef.ofBuf_toBuf]
    try dsimp only [TRef.toBuf, TRef.ofBuf]
    try simp only [cast_eq]
    rfl

/-- Neighbouring blocks of values. -/
theorem pieceE : after chunkE V (Proc.devRef .tc main_v15) = before fits (padded fits (V (Proc.devRef .tc main_v13)))
    ∧ after chunkE V (Proc.devRef .tc main_v16) = same fits (padded fits (V (Proc.devRef .tc main_v13)))
    ∧ after chunkE V (Proc.devRef .tc main_v17) = behind fits (padded fits (V (Proc.devRef .tc main_v13)))
    ∧ after chunkE V (Proc.devRef .tc main_v2) = V (Proc.devRef .tc main_v2)
    ∧ after chunkE V (Proc.devRef .tc main_v10) = V (Proc.devRef .tc main_v10) := by
  refine ⟨?_, ?_, ?_, ?_, ?_⟩ <;> after_reads_simp
  all_goals
    try simp only [TRef.ofBuf_toBuf]
    try dsimp only [TRef.toBuf, TRef.ofBuf]
    try simp only [cast_eq]
    rfl

/-- The values each block meets. -/
theorem pieceF : after chunkF V (Proc.devRef .tc main_v18) = join fits (V (Proc.devRef .tc main_v15)) (V (Proc.devRef .tc main_v16)) (V (Proc.devRef .tc main_v17))
    ∧ after chunkF V (Proc.devRef .tc main_v2) = V (Proc.devRef .tc main_v2)
    ∧ after chunkF V (Proc.devRef .tc main_v10) = V (Proc.devRef .tc main_v10) := by
  refine ⟨?_, ?_, ?_⟩ <;> after_reads_simp
  all_goals
    try simp only [TRef.ofBuf_toBuf]
    try dsimp only [TRef.toBuf, TRef.ofBuf]
    try simp only [cast_eq]
    rfl

/-- The masked scores. -/
theorem pieceG : after chunkG V (Proc.devRef .tc main_v59) = masked fits 4096 (V (Proc.devRef .tc main_v2)) (V (Proc.devRef .tc main_v10))
    ∧ after chunkG V (Proc.devRef .tc main_v18) = V (Proc.devRef .tc main_v18) := by
  refine ⟨?_, ?_⟩ <;> after_reads_simp
  all_goals
    try simp only [TRef.ofBuf_toBuf]
    try dsimp only [TRef.toBuf, TRef.ofBuf]
    try simp only [cast_eq]
    rfl

/-- The maxima, the weights and the denominators. -/
theorem pieceH : after chunkH V (Proc.devRef .tc main_v60) = sM fits (V (Proc.devRef .tc main_v59))
    ∧ after chunkH V (Proc.devRef .tc main_v64) = sP fits (V (Proc.devRef .tc main_v59))
    ∧ after chunkH V (Proc.devRef .tc main_v65) = sD fits (V (Proc.devRef .tc main_v59))
    ∧ after chunkH V (Proc.devRef .tc main_v18) = V (Proc.devRef .tc main_v18) := by
  refine ⟨?_, ?_, ?_, ?_⟩ <;> after_reads_simp
  all_goals
    try simp only [TRef.ofBuf_toBuf]
    try dsimp only [TRef.toBuf, TRef.ofBuf]
    try simp only [cast_eq]
    rfl

/-- The output rows, and the maxima and denominators by place. -/
theorem pieceI : after chunkI V (Proc.devRef .tc main_v72) = outRows fits (V (Proc.devRef .tc main_v64)) (V (Proc.devRef .tc main_v65)) (V (Proc.devRef .tc main_v18))
    ∧ after chunkI V (Proc.devRef .tc main_v66) = byPlace fits (V (Proc.devRef .tc main_v60))
    ∧ after chunkI V (Proc.devRef .tc main_v67) = byPlace fits (V (Proc.devRef .tc main_v65)) := by
  refine ⟨?_, ?_, ?_⟩ <;> after_reads_simp
  all_goals
    try simp only [TRef.ofBuf_toBuf]
    try dsimp only [TRef.toBuf, TRef.ofBuf]
    try simp only [cast_eq]
    rfl

/-- The output rows and the log-sum-exps by position. -/
theorem pieceJ : after chunkJ V (Proc.devRef .tc main_v74) = merged (V (Proc.devRef .tc main_v72))
    ∧ after chunkJ V (Proc.devRef .tc main_v81) = lanes (V (Proc.devRef .tc main_v66)) (V (Proc.devRef .tc main_v67)) := by
  refine ⟨?_, ?_⟩ <;> after_reads_simp
  all_goals
    try simp only [TRef.ofBuf_toBuf]
    try dsimp only [TRef.toBuf, TRef.ofBuf]
    try simp only [cast_eq]
    rfl

/-- The output by residue class. -/
theorem pieceK : after chunkK V (Proc.devRef .tc main_v82) = wide (V (Proc.devRef .tc main_v74))
    ∧ after chunkK V (Proc.devRef .tc main_v81) = V (Proc.devRef .tc main_v81) := by
  refine ⟨?_, ?_⟩ <;> after_reads_simp
  all_goals
    try simp only [TRef.ofBuf_toBuf]
    try dsimp only [TRef.toBuf, TRef.ofBuf]
    try simp only [cast_eq]
    rfl

/-- The two results. -/
theorem pieceL : after chunkL V (Proc.devRef .tc main_v83) = rounded (V (Proc.devRef .tc main_v82))
    ∧ after chunkL V (Proc.devRef .tc main_v84) = wideL (V (Proc.devRef .tc main_v81)) := by
  refine ⟨?_, ?_⟩ <;> after_reads_simp
  all_goals
    try simp only [TRef.ofBuf_toBuf]
    try dsimp only [TRef.toBuf, TRef.ofBuf]
    try simp only [cast_eq]
    rfl

/-- The reference's operations, piece by piece. -/
theorem after_line : after line.1 V
    = after chunkL (after chunkK (after chunkJ (after chunkI (after chunkH (after chunkG (after chunkF (after chunkE (after chunkD (after chunkC (after chunkB (after chunkA V))))))))))) := by
  rw [Cert.Host.after_cut V 10,
    Cert.Host.after_cut _ 6 (line.1.drop 10), List.drop_drop,
    Cert.Host.after_cut _ 1 (line.1.drop 16), List.drop_drop,
    Cert.Host.after_cut _ 5 (line.1.drop 17), List.drop_drop,
    Cert.Host.after_cut _ 6 (line.1.drop 22), List.drop_drop,
    Cert.Host.after_cut _ 1 (line.1.drop 28), List.drop_drop,
    Cert.Host.after_cut _ 51 (line.1.drop 29), List.drop_drop,
    Cert.Host.after_cut _ 8 (line.1.drop 80), List.drop_drop,
    Cert.Host.after_cut _ 7 (line.1.drop 88), List.drop_drop,
    Cert.Host.after_cut _ 11 (line.1.drop 95), List.drop_drop,
    Cert.Host.after_cut _ 1 (line.1.drop 106), List.drop_drop]
  rfl

/-- The output of the whole line. -/
theorem line_v83 : after line.1 V (Proc.devRef .tc main_v83)
    = oRes (V (Proc.devRef .tc main_arg0)) (V (Proc.devRef .tc main_arg1)) (V (Proc.devRef .tc main_arg2)) := by
  rw [after_line, (pieceL _).1, (pieceK _).1, (pieceJ _).1, (pieceI _).1, (pieceH _).2.1, (pieceH _).2.2.1, (pieceH _).2.2.2, (pieceG _).1, (pieceG _).2, (pieceF _).2.1, (pieceF _).2.2, (pieceF _).1, (pieceE _).2.2.2.1, (pieceE _).2.2.2.2, (pieceE _).1, (pieceE _).2.1, (pieceE _).2.2.1,
    (pieceD _).2.1, (pieceD _).2.2, (pieceD _).1, (pieceC _).2.1, (pieceC _).1, (pieceC _).2.2, (pieceB _).2.2.2.1, (pieceB _).1, (pieceB _).2.1, (pieceB _).2.2.1, (pieceB _).2.2.2.2, (pieceA _).1, (pieceA _).2.1, (pieceA _).2.2]
  rfl

/-- The log-sum-exps of the whole line. -/
theorem line_v84 : after line.1 V (Proc.devRef .tc main_v84)
    = lRes (V (Proc.devRef .tc main_arg0)) (V (Proc.devRef .tc main_arg1)) := by
  rw [after_line, (pieceL _).2, (pieceK _).2, (pieceJ _).2, (pieceI _).2.1, (pieceI _).2.2, (pieceH _).1, (pieceH _).2.2.1, (pieceG _).1, (pieceF _).2.1, (pieceF _).2.2, (pieceE _).2.2.2.1, (pieceE _).2.2.2.2,
    (pieceD _).2.1, (pieceD _).2.2, (pieceC _).2.1, (pieceC _).1, (pieceB _).2.2.2.1, (pieceB _).1, (pieceB _).2.1, (pieceB _).2.2.1, (pieceA _).1, (pieceA _).2.1]
  rfl

/-- Every run of the reference ends with its two results at those arrays and its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v83) = oRes (m ((c.tc : Thread nD τ).loc main_arg0)) (m ((c.tc : Thread nD τ).loc main_arg1)) (m ((c.tc : Thread nD τ).loc main_arg2))
      ∧ r.2.mem ((c.tc : Thread nD τ).loc main_v84) = lRes (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine θ_run_mono (StableHlo.run_hlo defs main line.2 (by decide) (by decide) (by unfold line; simp)
    (by unfold line; intro _ h; (repeat (cases h with | head => rfl | tail _ h => ?_)); exact nomatch h) m ρ) fun r h c => ?_
  refine ⟨(h c main_v83).trans (line_v83 _), (h c main_v84).trans (line_v84 _), (h c main_arg0).trans ?_, (h c main_arg1).trans ?_, (h c main_arg2).trans ?_⟩
  all_goals after_reads_simp

end Cert.Ref4

end
-- ==== Proof.Ref4.lean ====
/- The reference of the pattern with dilation 4: its two results are the banded attention. -/
module

public import proofs.«01_k».proof.Proof.Ref4Run

@[expose] public section

set_option maxRecDepth 16384

noncomputable section

open Idealize.ShloMosaic Idealize.ShloMosaic.TcCoe Idealize.SL.Sem

namespace Cert.Ref4

open Cert.Reference4Ideal Cert.Reference4Ideal.Gen Cert.Window Cert.Spec Cert.Words Cert.Blocks

/-- The blocks are the operand's. -/
theorem cut (X : Arr) : Cut X (blk X) := by
  intro b n i r h e
  pointwise [blk]
  rw [dif_pos (by omega)]
  exact congrArg (fun z => X (ix4 b z h e)) (Fin.ext (by simp only [pos]; omega))

/-- The output at a position. -/
theorem o_at (x : FVec Ideal S2x64x64x4x12x128 .f32) (b : Fin 2) (p : Fin 4096) (c : Fin 6144) :
    oArr x (ix3 b p c) = x (ix6 b ⟨p.val / 64, by omega⟩ ⟨p.val % 64, by omega⟩ ⟨c.val / 1536, by omega⟩ ⟨c.val % 1536 / 128, by omega⟩ ⟨c.val % 128, by omega⟩) := by
  pointwise [oArr, rounded, wide, merged]
  exact congrArg (fun z => x (ix6 b _ _ _ z _)) (Fin.ext (by simp only; omega))

/-- A log-sum-exp at a position. -/
theorem l_at (x y : FVec Ideal S2x64x64x4x12 .f32) (b : Fin 2) (p : Fin 4096) (c : Fin 512) :
    lArr x y (ix3 b p c) = if hc : c.val % 128 < 12 then
      x (ix5 b ⟨p.val / 64, by omega⟩ ⟨p.val % 64, by omega⟩ ⟨c.val / 128, by omega⟩ ⟨c.val % 128, hc⟩)
        + Ideal.log (y (ix5 b ⟨p.val / 64, by omega⟩ ⟨p.val % 64, by omega⟩ ⟨c.val / 128, by omega⟩ ⟨c.val % 128, hc⟩)) else 0 := by
  pointwise [lArr, wideL, lanes, back]
  by_cases hc : c.val % 128 < 12
  · rw [dif_pos ⟨by omega, hc⟩, dif_pos hc]
    have hx : ∀ (z : FVec Ideal S2x64x64x4x12 .f32) (n : Fin 64) (i : Fin 64) (r : Fin 4), n.val = p.val / 64 → i.val = p.val % 64 → r.val = c.val / 128 →
        z (ix5 b n i r ⟨c.val % 128, hc⟩) = z (ix5 b ⟨p.val / 64, by omega⟩ ⟨p.val % 64, by omega⟩ ⟨c.val / 128, by omega⟩ ⟨c.val % 128, hc⟩) :=
      fun z n i r hn hi hr => by rw [Fin.ext (b := ⟨p.val / 64, by omega⟩) hn, Fin.ext (b := ⟨p.val % 64, by omega⟩) hi, Fin.ext (b := ⟨c.val / 128, by omega⟩) hr]
    refine congrArg₂ (fun u v => u + Ideal.log v) (hx x _ _ _ ?_ ?_ ?_) (hx y _ _ _ ?_ ?_ ?_) <;> (simp only; omega)
  · rw [dif_neg fun hh => hc hh.2, dif_neg hc]
    show (((0#32 : BitVec 32).toInt : ℝ) : EReal) = 0
    simp

/-- The reference's output is the attention's. -/
theorem final_o (Q K V : Arr) : oRes Q K V = fun i : S2x4096x6144.Idx =>
    attnOut 4 4096 Q K V ⟨(i 0).val, (i 0).isLt⟩ (i 1).val (i 2).val := by
  funext y
  obtain ⟨b, p, c, rfl⟩ : ∃ b p c, y = ix3 b p c := ⟨y 0, y 1, y 2, by funext a; fin_cases a <;> rfl⟩
  unfold oRes
  rw [o_at]
  exact rows_wide fits rfl (by decide) (cut Q) (cut K) (cut V) b p.val c.val (by omega) (by omega)

/-- The reference's log-sum-exps are the attention's. -/
theorem final_l (Q K : Arr) : lRes Q K = fun i : S2x4096x512.Idx =>
    attnLse 4 4096 Q K ⟨(i 0).val, (i 0).isLt⟩ (i 1).val (i 2).val := by
  funext y
  obtain ⟨b, p, c, rfl⟩ : ∃ b p c, y = ix3 b p c := ⟨y 0, y 1, y 2, by funext a; fin_cases a <;> rfl⟩
  unfold lRes
  rw [l_at]
  by_cases hc : c.val % 128 < 12
  · rw [dif_pos hc]
    exact lse_wide fits rfl (by decide) (cut Q) (cut K) b p.val c.val (by omega) (by omega) hc
  · rw [dif_neg hc]
    exact (lse_rest 4096 Q K b p.val c.val hc).symm

end Cert.Ref4

end
-- ==== Proof.Claims4.lean ====
/- The claims about the pattern with dilation 4. -/
module

public import proofs.«01_k».proof.Defs
public import proofs.«01_k».proof.Proof.Dil4
public import proofs.«01_k».proof.Proof.Ref4
public import proofs.«01_k».proof.Proof.Gen.Kernel4.Frame
public import proofs.«01_k».proof.Proof.Gen.Kernel4Ideal.Frame
public import proofs.«01_k».proof.Proof.Gen.Kernel4Ideal.Value
public import Idealize.ShloMosaic.Adequacy
public import Idealize.ShloMosaic.Init
public import Idealize.ShloMosaic.Lib.Quiescent

@[expose] public section

noncomputable section

namespace Cert.Claims4

open Idealize.ShloMosaic Idealize.SL.Sem

/-- The kernel runs, its arguments unchanged. -/
theorem frame_p : Cert.quiescent_Kernel4 := fun m ρ _ => Cert.Kernel4.Gen.frame m ρ

/-- The idealised kernel runs, its arguments unchanged. -/
theorem frame_pi : Cert.quiescent_Kernel4Ideal := fun m ρ _ => Cert.Kernel4Ideal.Gen.frame m ρ

/-- The reference runs, its arguments unchanged. -/
theorem frame_ri : Cert.quiescent_Reference4Ideal := fun m ρ _ =>
  (θ_run Cert.Reference4Ideal.defs _ _).mono
    (fun r h => ⟨fun c => (h c).2.2, Idealize.ShloMosaic.sem_eq_zero_of_no_sems (by decide) r.2⟩) (Cert.Ref4.run m ρ)

/-- The mask is a constant that the idealised kernel names −∞. -/
theorem preserves : Cert.preserves_Kernel4_Kernel4Ideal :=
  IdealRules.named_const.statement Cert.Kernel4Ideal.κ "mask" .f32 0xF149F2CA#32 ⊥ rfl

/-- The idealised kernel and the reference end with equal results. -/
theorem algebraic : Cert.algebraic_Kernel4Ideal_Reference4Ideal := by
  intro m g m' g' _ hagree
  refine ⟨_, _, Cert.Kernel4Ideal.Value.run_blocks m g, θ_run_mono (Cert.Ref4.run m' g') fun r h c => ?_⟩
  obtain ⟨ho, hl, hargs⟩ := h c
  obtain ⟨e0, e1, e2⟩ := hagree c
  refine ⟨?_, ?_, hargs⟩
  · refine Eq.trans ?_ (Cert.Dil4.final_o m c).symm
    rw [ho, Cert.Ref4.final_o, e0, e1, e2]
  · refine Eq.trans ?_ (Cert.Dil4.final_l m c).symm
    rw [hl, Cert.Ref4.final_l, e0, e1]

end Cert.Claims4

end
-- ==== Proof.Dil1.lean ====
/- The dilated attention's kernel of the pattern with dilation 1: its two result arrays are the banded attention. -/
module

public import proofs.«01_k».proof.Proof.Gen.Kernel1Ideal.Frame
public import proofs.«01_k».proof.Proof.Body

@[expose] public section

set_option maxRecDepth 16384

noncomputable section

open Idealize.ShloMosaic Idealize.ShloMosaic.TcCoe Idealize.SL.Sem
open Idealize.ShloMosaic.Pipeline (Dat)

namespace Cert.Dil1

open Cert.Kernel1Ideal Cert.Kernel1Ideal.Gen Cert.Spec Cert.Tile Cert.Body Cert.Words

variable (m : (ℓ : Loc nD τ sig) → Buf (Elt Ideal) ℓ)

/-- Where every window's block lies, by the grid point's number. -/
theorem idx : ∀ t : Fin cfg0.N,
    win0_0.index t = ![t.val / 32, t.val % 32, t.val / 32 % 1] ∧ win0_1.index t = ![t.val / 32, t.val % 32, t.val / 32 % 1]
    ∧ win0_2.index t = ![t.val / 32, 8 * (t.val % 32) - 1, t.val / 32 % 1] ∧ win0_3.index t = ![t.val / 32, min (8 * (t.val % 32) + 8) 255, t.val / 32 % 1]
    ∧ win0_4.index t = ![t.val / 32, t.val % 32, t.val / 32 % 1]
    ∧ win0_5.index t = ![t.val / 32, 8 * (t.val % 32) - 1, t.val / 32 % 1] ∧ win0_6.index t = ![t.val / 32, min (8 * (t.val % 32) + 8) 255, t.val / 32 % 1]
    ∧ win0_7.index t = ![t.val / 32, t.val % 32, t.val / 32 % 1] ∧ win0_8.index t = ![t.val / 32, t.val % 32, t.val / 32 % 1]
    ∧ (grid0.coords t 2).val = t.val % 32 ∧ t.val / 32 < 2 :=
  (by decide +kernel : ∀ t : Fin grid0.N, _)

/-- The host's layout of an operand, read at an index. -/
theorem lay (A : Arr) (b : Fin 2) (p r : ℕ) (h : Fin 12) (e : Fin 128) (hp : p < 16384) (hr : r < 1) :
    shapeCast S2x16384x1536 (truncf .bf16 A bitsLt_bf16_f32) shapeCasts_S2x16384x12x128_S2x16384x1536
      (ix3 b ⟨p, hp⟩ ⟨1536 * r + 128 * h.val + e.val, by omega⟩) = A (ix4 b (pos 1 p r) h e) := by
  pointwise []
  exact congrArg (fun z => A (ix4 b z h e)) (Fin.ext (by simp only [pos]; omega))

/-- The staged blocks of grid point `t`. -/
theorem blocks (c : Dev nD) (t : Fin cfg0.N) :
    Blocks 1 16384 (m ((c : Thread nD τ).loc main_arg0)) (m ((c : Thread nD τ).loc main_arg1)) (m ((c : Thread nD τ).loc main_arg2))
      ⟨t.val / 32, (idx t).2.2.2.2.2.2.2.2.2.2⟩ (t.val / 32 % 1) (t.val % 32)
      (iblk m c 0 t) (iblk m c 1 t) (iblk m c 2 t) (iblk m c 3 t) (iblk m c 4 t) (iblk m c 5 t) (iblk m c 6 t) := by
  constructor <;> intros <;>
  · refine Eq.trans ?_ (lay _ _ _ _ _ _ (by omega) (by omega))
    blk_simp [iblk]
    entry_read
    refine congrArg (shapeCast _ _ _) ?_
    blk_ext [idx t]

/-- The masks of grid point `t`. -/
theorem masks_at (t : Fin cfg0.N) (j : Fin 4) : MaskOk 16384 (t.val % 32) (128 * j.val) (masks (grid0.coords t 2).val 31 j) := by
  rw [(idx t).2.2.2.2.2.2.2.2.2.1]
  exact masks_ok (t.val % 32) 31 (by omega) (by decide) j

set_option maxHeartbeats 1600000 in
/-- What a grid point stores in the output window is the attention there. -/
theorem point_o (c : Dev nD) (t : Fin cfg0.N) (y : S1x512x1536.Idx) :
    out0_7 (grid0.coords t) (iblk m c 0 t) (iblk m c 1 t) (iblk m c 2 t) (iblk m c 3 t) (iblk m c 4 t) (iblk m c 5 t) (iblk m c 6 t) y
      = blkO 1 16384 (m ((c : Thread nD τ).loc main_arg0)) (m ((c : Thread nD τ).loc main_arg1)) (m ((c : Thread nD τ).loc main_arg2))
          ⟨t.val / 32, (idx t).2.2.2.2.2.2.2.2.2.2⟩ (t.val / 32 % 1) (t.val % 32) y :=
  outO_eq (blocks m c t) (masks_at t) y

set_option maxHeartbeats 1600000 in
/-- What a grid point stores in the log-sum window is the attention's there. -/
theorem point_l (c : Dev nD) (t : Fin cfg0.N) (y : S1x512x128.Idx) :
    out0_8 (grid0.coords t) (iblk m c 0 t) (iblk m c 1 t) (iblk m c 2 t) (iblk m c 3 t) (iblk m c 4 t) (iblk m c 5 t) (iblk m c 6 t) y
      = blkL 1 16384 (m ((c : Thread nD τ).loc main_arg0)) (m ((c : Thread nD τ).loc main_arg1))
          ⟨t.val / 32, (idx t).2.2.2.2.2.2.2.2.2.2⟩ (t.val / 32 % 1) (t.val % 32) (y 1) (y 2) :=
  outL_eq (blocks m c t) (masks_at t) y

/-- The output array after the run is the attention. -/
theorem final_o (c : Dev nD) : (dats m 0 c).arrAt 7 cfg0.N = fun i : S2x16384x1536.Idx =>
    attnOut 1 16384 (m ((c : Thread nD τ).loc main_arg0)) (m ((c : Thread nD τ).loc main_arg1)) (m ((c : Thread nD τ).loc main_arg2))
      ⟨(i 0).val, (i 0).isLt⟩ (i 1).val (i 2).val := by
  refine (dats m 0 c).arrAt_eq_of_covers 7 _ (by decide +kernel) fun t hf y => ?_
  blk_simp
  rw [after0_7]
  refine (point_o m c t y).trans (blkO_eq 1 16384 _ _ _ _ _ _ _ _ _ y ?_ ?_ ?_) <;> simp [idx t, Nat.mul_comm]

/-- The array of log-sum-exps after the run is the attention's. -/
theorem final_l (c : Dev nD) : (dats m 0 c).arrAt 8 cfg0.N = fun i : S2x16384x128.Idx =>
    attnLse 1 16384 (m ((c : Thread nD τ).loc main_arg0)) (m ((c : Thread nD τ).loc main_arg1))
      ⟨(i 0).val, (i 0).isLt⟩ (i 1).val (i 2).val := by
  refine (dats m 0 c).arrAt_eq_of_covers 8 _ (by decide +kernel) fun t hf y => ?_
  blk_simp
  rw [after0_8]
  refine (point_l m c t y).trans (blkL_eq 1 16384 _ _ _ _ _ _ _ _ _ _ ?_ ?_ ?_) <;> simp [idx t, Nat.mul_comm]

end Cert.Dil1

end
-- ==== Proof.Ref1Run.lean ====
/- The reference of the pattern with dilation 1: its two results are the banded attention. -/
module

public import proofs.«01_k».proof.Proof.Gen.Reference1Ideal
public import Idealize.ShloMosaic.Lib.StableHlo.RunHlo
public import Idealize.ShloMosaic.Lib.StableHlo.RunRead
public import proofs.«01_k».proof.Proof.Host
public import proofs.«01_k».proof.Proof.Blocks
public import proofs.«01_k».proof.Reference1Ideal

@[expose] public section

set_option maxRecDepth 16384

noncomputable section

open Idealize.ShloMosaic Idealize.ShloMosaic.TcCoe Idealize.SL.Sem

namespace Cert.Ref1

open Cert.Reference1Ideal Cert.Reference1Ideal.Gen Cert.Window Cert.Spec Cert.Words Cert.Blocks

/-- The shapes fit. -/
theorem fits : Fit 256 1 := by constructor <;> decide

/-- An operand cut into blocks of 64 entries of every residue class. -/
def blk (X : FVec Ideal S2x16384x12x128 .f32) : FVec Ideal S2x256x64x1x12x128 .f32 :=
  shapeCast _ (pad S2x16384x1x12x128 ![0, 0, 0, 0, 0] ![0, 0, 0, 0, 0] ![0, 0, 0, 0, 0]
    (shapeCast _ X shapeCasts_S2x16384x12x128_S2x16384x1x12x128) (sitofp .f32 (constantI S_ 32 0#32))
    pads_S2x16384x1x12x128_S2x16384x1x12x128_000_000_000_000_000 h_S_) shapeCasts_S2x16384x1x12x128_S2x256x64x1x12x128

/-- A statistic of the rows, by position in the sequence. -/
def back (x : FVec Ideal S2x256x64x1x12 .f32) : FVec Ideal S2x16384x12 .f32 :=
  shapeCast _ (shapeCast _ x shapeCasts_S2x256x64x1x12_S2x16384x1x12) shapeCasts_S2x16384x1x12_S2x16384x12

/-- The output rows by position in the sequence. -/
def merged (x : FVec Ideal S2x256x64x1x12x128 .f32) : FVec Ideal S2x16384x12x128 .f32 :=
  shapeCast S2x16384x12x128 (shapeCast S2x16384x1x12x128 x shapeCasts_S2x256x64x1x12x128_S2x16384x1x12x128)
    shapeCasts_S2x16384x1x12x128_S2x16384x12x128

/-- The output with the residue classes side by side. -/
def wide (x : FVec Ideal S2x16384x12x128 .f32) : FVec Ideal S2x16384x1536 .f32 :=
  shapeCast S2x16384x1536 x shapeCasts_S2x16384x12x128_S2x16384x1536

/-- The output in its format. -/
def rounded (x : FVec Ideal S2x16384x1536 .f32) : FVec Ideal S2x16384x1536 .bf16 := truncf .bf16 x bitsLt_bf16_f32

/-- The output rows by position in the residue classes. -/
def oArr (x : FVec Ideal S2x256x64x1x12x128 .f32) : FVec Ideal S2x16384x1536 .bf16 := rounded (wide (merged x))

/-- The log-sum-exps, from the maxima and the denominators, on 128 lanes. -/
def lanes (x y : FVec Ideal S2x256x64x1x12 .f32) : FVec Ideal S2x16384x128 .f32 :=
  pad S2x16384x128 ![0, 0, 0] ![0, 0, 116] ![0, 0, 0] (addf (back x) (Host.log (back y)))
    (sitofp .f32 (constantI S_ 32 0#32)) pads_S2x16384x12_S2x16384x128_000_000_01160 h_S_

/-- The log-sum-exps with the residue classes side by side. -/
def wideL (x : FVec Ideal S2x16384x128 .f32) : FVec Ideal S2x16384x128 .f32 :=
  x

/-- The log-sum-exps by position in the residue classes. -/
def lArr (x y : FVec Ideal S2x256x64x1x12 .f32) : FVec Ideal S2x16384x128 .f32 := wideL (lanes x y)

/-- The output array. -/
def oRes (Q K V : FVec Ideal S2x16384x12x128 .f32) : FVec Ideal S2x16384x1536 .bf16 :=
  oArr (rows fits 16384 (blk Q) (blk K) (blk V))

/-- The array of log-sum-exps. -/
def lRes (Q K : FVec Ideal S2x16384x12x128 .f32) : FVec Ideal S2x16384x128 .f32 :=
  lArr (byPlace fits (sM fits (scores fits 16384 (blk Q) (blk K)))) (byPlace fits (sD fits (scores fits 16384 (blk Q) (blk K))))

/-- The reference's operations in order. -/
def line : {ops : List (HloOp τ sig (Elt Ideal)) // ∀ d, StableHlo.IsSeq (main (F := Ideal) d) ops} := by
  apply Subtype.mk
  hlo_seq

open StableHlo

/-- The operations that cut queries and keys into blocks. -/
def chunkA : List (HloOp τ sig (Elt Ideal)) := line.1.take 10
/-- The operations that cut the neighbouring blocks of keys. -/
def chunkB : List (HloOp τ sig (Elt Ideal)) := (line.1.drop 10).take 6
/-- The operations that join each block of keys to its neighbours. -/
def chunkC : List (HloOp τ sig (Elt Ideal)) := (line.1.drop 16).take 1
/-- The operations that cut the values into blocks. -/
def chunkD : List (HloOp τ sig (Elt Ideal)) := (line.1.drop 17).take 5
/-- The operations that cut the neighbouring blocks of values. -/
def chunkE : List (HloOp τ sig (Elt Ideal)) := (line.1.drop 22).take 6
/-- The operations that join each block of values to its neighbours. -/
def chunkF : List (HloOp τ sig (Elt Ideal)) := (line.1.drop 28).take 1
/-- The operations that make the scores. -/
def chunkG : List (HloOp τ sig (Elt Ideal)) := (line.1.drop 29).take 51
/-- The operations that make the weights. -/
def chunkH : List (HloOp τ sig (Elt Ideal)) := (line.1.drop 80).take 8
/-- The operations that make the output rows. -/
def chunkI : List (HloOp τ sig (Elt Ideal)) := (line.1.drop 88).take 7
/-- The operations that put the rows back in sequence. -/
def chunkJ : List (HloOp τ sig (Elt Ideal)) := (line.1.drop 95).take 11
/-- The operations that lay the output out. -/
def chunkK : List (HloOp τ sig (Elt Ideal)) := (line.1.drop 106).take 1
/-- The operations that finish the two results. -/
def chunkL : List (HloOp τ sig (Elt Ideal)) := line.1.drop 107

variable (V : Valuation τ sig (Elt Ideal))

/-- The blocks of queries and of keys. -/
theorem pieceA : after chunkA V (Proc.devRef .tc main_v2) = blk (V (Proc.devRef .tc main_arg0))
    ∧ after chunkA V (Proc.devRef .tc main_v5) = blk (V (Proc.devRef .tc main_arg1))
    ∧ after chunkA V (Proc.devRef .tc main_arg2) = V (Proc.devRef .tc main_arg2) := by
  refine ⟨?_, ?_, ?_⟩ <;> after_reads_simp
  all_goals
    try simp only [TRef.ofBuf_toBuf]
    try dsimp only [TRef.toBuf, TRef.ofBuf]
    try simp only [cast_eq]
    rfl

/-- Neighbouring blocks of keys. -/
theorem pieceB : after chunkB V (Proc.devRef .tc main_v7) = before fits (padded fits (V (Proc.devRef .tc main_v5)))
    ∧ after chunkB V (Proc.devRef .tc main_v8) = same fits (padded fits (V (Proc.devRef .tc main_v5)))
    ∧ after chunkB V (Proc.devRef .tc main_v9) = behind fits (padded fits (V (Proc.devRef .tc main_v5)))
    ∧ after chunkB V (Proc.devRef .tc main_v2) = V (Proc.devRef .tc main_v2)
    ∧ after chunkB V (Proc.devRef .tc main_arg2) = V (Proc.devRef .tc main_arg2) := by
  refine ⟨?_, ?_, ?_, ?_, ?_⟩ <;> after_reads_simp
  all_goals
    try simp only [TRef.ofBuf_toBuf]
    try dsimp only [TRef.toBuf, TRef.ofBuf]
    try simp only [cast_eq]
    rfl

/-- The keys each block meets. -/
theorem pieceC : after chunkC V (Proc.devRef .tc main_v10) = join fits (V (Proc.devRef .tc main_v7)) (V (Proc.devRef .tc main_v8)) (V (Proc.devRef .tc main_v9))
    ∧ after chunkC V (Proc.devRef .tc main_v2) = V (Proc.devRef .tc main_v2)
    ∧ after chunkC V (Proc.devRef .tc main_arg2) = V (Proc.devRef .tc main_arg2) := by
  refine ⟨?_, ?_, ?_⟩ <;> after_reads_simp
  all_goals
    try simp only [TRef.ofBuf_toBuf]
    try dsimp only [TRef.toBuf, TRef.ofBuf]
    try simp only [cast_eq]
    rfl

/-- The blocks of values. -/
theorem pieceD : after chunkD V (Proc.devRef .tc main_v13) = blk (V (Proc.devRef .tc main_arg2))
    ∧ after chunkD V (Proc.devRef .tc main_v2) = V (Proc.devRef .tc main_v2)
    ∧ after chunkD V (Proc.devRef .tc main_v10) = V (Proc.devRef .tc main_v10) := by
  refine ⟨?_, ?_, ?_⟩ <;> after_reads_simp
  all_goals
    try simp only [TRef.ofBuf_toBuf]
    try dsimp only [TRef.toBuf, TRef.ofBuf]
    try simp only [cast_eq]
    rfl

/-- Neighbouring blocks of values. -/
theorem pieceE : after chunkE V (Proc.devRef .tc main_v15) = before fits (padded fits (V (Proc.devRef .tc main_v13)))
    ∧ after chunkE V (Proc.devRef .tc main_v16) = same fits (padded fits (V (Proc.devRef .tc main_v13)))
    ∧ after chunkE V (Proc.devRef .tc main_v17) = behind fits (padded fits (V (Proc.devRef .tc main_v13)))
    ∧ after chunkE V (Proc.devRef .tc main_v2) = V (Proc.devRef .tc main_v2)
    ∧ after chunkE V (Proc.devRef .tc main_v10) = V (Proc.devRef .tc main_v10) := by
  refine ⟨?_, ?_, ?_, ?_, ?_⟩ <;> after_reads_simp
  all_goals
    try simp only [TRef.ofBuf_toBuf]
    try dsimp only [TRef.toBuf, TRef.ofBuf]
    try simp only [cast_eq]
    rfl

/-- The values each block meets. -/
theorem pieceF : after chunkF V (Proc.devRef .tc main_v18) = join fits (V (Proc.devRef .tc main_v15)) (V (Proc.devRef .tc main_v16)) (V (Proc.devRef .tc main_v17))
    ∧ after chunkF V (Proc.devRef .tc main_v2) = V (Proc.devRef .tc main_v2)
    ∧ after chunkF V (Proc.devRef .tc main_v10) = V (Proc.devRef .tc main_v10) := by
  refine ⟨?_, ?_, ?_⟩ <;> after_reads_simp
  all_goals
    try simp only [TRef.ofBuf_toBuf]
    try dsimp only [TRef.toBuf, TRef.ofBuf]
    try simp only [cast_eq]
    rfl

/-- The masked scores. -/
theorem pieceG : after chunkG V (Proc.devRef .tc main_v59) = masked fits 16384 (V (Proc.devRef .tc main_v2)) (V (Proc.devRef .tc main_v10))
    ∧ after chunkG V (Proc.devRef .tc main_v18) = V (Proc.devRef .tc main_v18) := by
  refine ⟨?_, ?_⟩ <;> after_reads_simp
  all_goals
    try simp only [TRef.ofBuf_toBuf]
    try dsimp only [TRef.toBuf, TRef.ofBuf]
    try simp only [cast_eq]
    rfl

/-- The maxima, the weights and the denominators. -/
theorem pieceH : after chunkH V (Proc.devRef .tc main_v60) = sM fits (V (Proc.devRef .tc main_v59))
    ∧ after chunkH V (Proc.devRef .tc main_v64) = sP fits (V (Proc.devRef .tc main_v59))
    ∧ after chunkH V (Proc.devRef .tc main_v65) = sD fits (V (Proc.devRef .tc main_v59))
    ∧ after chunkH V (Proc.devRef .tc main_v18) = V (Proc.devRef .tc main_v18) := by
  refine ⟨?_, ?_, ?_, ?_⟩ <;> after_reads_simp
  all_goals
    try simp only [TRef.ofBuf_toBuf]
    try dsimp only [TRef.toBuf, TRef.ofBuf]
    try simp only [cast_eq]
    rfl

/-- The output rows, and the maxima and denominators by place. -/
theorem pieceI : after chunkI V (Proc.devRef .tc main_v72) = outRows fits (V (Proc.devRef .tc main_v64)) (V (Proc.devRef .tc main_v65)) (V (Proc.devRef .tc main_v18))
    ∧ after chunkI V (Proc.devRef .tc main_v66) = byPlace fits (V (Proc.devRef .tc main_v60))
    ∧ after chunkI V (Proc.devRef .tc main_v67) = byPlace fits (V (Proc.devRef .tc main_v65)) := by
  refine ⟨?_, ?_, ?_⟩ <;> after_reads_simp
  all_goals
    try simp only [TRef.ofBuf_toBuf]
    try dsimp only [TRef.toBuf, TRef.ofBuf]
    try simp only [cast_eq]
    rfl

/-- The output rows and the log-sum-exps by position. -/
theorem pieceJ : after chunkJ V (Proc.devRef .tc main_v74) = merged (V (Proc.devRef .tc main_v72))
    ∧ after chunkJ V (Proc.devRef .tc main_v81) = lanes (V (Proc.devRef .tc main_v66)) (V (Proc.devRef .tc main_v67)) := by
  refine ⟨?_, ?_⟩ <;> after_reads_simp
  all_goals
    try simp only [TRef.ofBuf_toBuf]
    try dsimp only [TRef.toBuf, TRef.ofBuf]
    try simp only [cast_eq]
    rfl

/-- The output by residue class. -/
theorem pieceK : after chunkK V (Proc.devRef .tc main_v82) = wide (V (Proc.devRef .tc main_v74))
    ∧ after chunkK V (Proc.devRef .tc main_v81) = V (Proc.devRef .tc main_v81) := by
  refine ⟨?_, ?_⟩ <;> after_reads_simp
  all_goals
    try simp only [TRef.ofBuf_toBuf]
    try dsimp only [TRef.toBuf, TRef.ofBuf]
    try simp only [cast_eq]
    rfl

/-- The two results. -/
theorem pieceL : after chunkL V (Proc.devRef .tc main_v83) = rounded (V (Proc.devRef .tc main_v82))
    ∧ after chunkL V (Proc.devRef .tc main_v81) = V (Proc.devRef .tc main_v81) := by
  refine ⟨?_, ?_⟩ <;> after_reads_simp
  all_goals
    try simp only [TRef.ofBuf_toBuf]
    try dsimp only [TRef.toBuf, TRef.ofBuf]
    try simp only [cast_eq]
    rfl

/-- The reference's operations, piece by piece. -/
theorem after_line : after line.1 V
    = after chunkL (after chunkK (after chunkJ (after chunkI (after chunkH (after chunkG (after chunkF (after chunkE (after chunkD (after chunkC (after chunkB (after chunkA V))))))))))) := by
  rw [Cert.Host.after_cut V 10,
    Cert.Host.after_cut _ 6 (line.1.drop 10), List.drop_drop,
    Cert.Host.after_cut _ 1 (line.1.drop 16), List.drop_drop,
    Cert.Host.after_cut _ 5 (line.1.drop 17), List.drop_drop,
    Cert.Host.after_cut _ 6 (line.1.drop 22), List.drop_drop,
    Cert.Host.after_cut _ 1 (line.1.drop 28), List.drop_drop,
    Cert.Host.after_cut _ 51 (line.1.drop 29), List.drop_drop,
    Cert.Host.after_cut _ 8 (line.1.drop 80), List.drop_drop,
    Cert.Host.after_cut _ 7 (line.1.drop 88), List.drop_drop,
    Cert.Host.after_cut _ 11 (line.1.drop 95), List.drop_drop,
    Cert.Host.after_cut _ 1 (line.1.drop 106), List.drop_drop]
  rfl

/-- The output of the whole line. -/
theorem line_v83 : after line.1 V (Proc.devRef .tc main_v83)
    = oRes (V (Proc.devRef .tc main_arg0)) (V (Proc.devRef .tc main_arg1)) (V (Proc.devRef .tc main_arg2)) := by
  rw [after_line, (pieceL _).1, (pieceK _).1, (pieceJ _).1, (pieceI _).1, (pieceH _).2.1, (pieceH _).2.2.1, (pieceH _).2.2.2, (pieceG _).1, (pieceG _).2, (pieceF _).2.1, (pieceF _).2.2, (pieceF _).1, (pieceE _).2.2.2.1, (pieceE _).2.2.2.2, (pieceE _).1, (pieceE _).2.1, (pieceE _).2.2.1,
    (pieceD _).2.1, (pieceD _).2.2, (pieceD _).1, (pieceC _).2.1, (pieceC _).1, (pieceC _).2.2, (pieceB _).2.2.2.1, (pieceB _).1, (pieceB _).2.1, (pieceB _).2.2.1, (pieceB _).2.2.2.2, (pieceA _).1, (pieceA _).2.1, (pieceA _).2.2]
  rfl

/-- The log-sum-exps of the whole line. -/
theorem line_v81 : after line.1 V (Proc.devRef .tc main_v81)
    = lRes (V (Proc.devRef .tc main_arg0)) (V (Proc.devRef .tc main_arg1)) := by
  rw [after_line, (pieceL _).2, (pieceK _).2, (pieceJ _).2, (pieceI _).2.1, (pieceI _).2.2, (pieceH _).1, (pieceH _).2.2.1, (pieceG _).1, (pieceF _).2.1, (pieceF _).2.2, (pieceE _).2.2.2.1, (pieceE _).2.2.2.2,
    (pieceD _).2.1, (pieceD _).2.2, (pieceC _).2.1, (pieceC _).1, (pieceB _).2.2.2.1, (pieceB _).1, (pieceB _).2.1, (pieceB _).2.2.1, (pieceA _).1, (pieceA _).2.1]
  rfl

/-- Every run of the reference ends with its two results at those arrays and its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v83) = oRes (m ((c.tc : Thread nD τ).loc main_arg0)) (m ((c.tc : Thread nD τ).loc main_arg1)) (m ((c.tc : Thread nD τ).loc main_arg2))
      ∧ r.2.mem ((c.tc : Thread nD τ).loc main_v81) = lRes (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine θ_run_mono (StableHlo.run_hlo defs main line.2 (by decide) (by decide) (by unfold line; simp)
    (by unfold line; intro _ h; (repeat (cases h with | head => rfl | tail _ h => ?_)); exact nomatch h) m ρ) fun r h c => ?_
  refine ⟨(h c main_v83).trans (line_v83 _), (h c main_v81).trans (line_v81 _), (h c main_arg0).trans ?_, (h c main_arg1).trans ?_, (h c main_arg2).trans ?_⟩
  all_goals after_reads_simp

end Cert.Ref1

end
-- ==== Proof.Ref1.lean ====
/- The reference of the pattern with dilation 1: its two results are the banded attention. -/
module

public import proofs.«01_k».proof.Proof.Ref1Run

@[expose] public section

set_option maxRecDepth 16384

noncomputable section

open Idealize.ShloMosaic Idealize.ShloMosaic.TcCoe Idealize.SL.Sem

namespace Cert.Ref1

open Cert.Reference1Ideal Cert.Reference1Ideal.Gen Cert.Window Cert.Spec Cert.Words Cert.Blocks

/-- The blocks are the operand's. -/
theorem cut (X : Arr) : Cut X (blk X) := by
  intro b n i r h e
  pointwise [blk]
  rw [dif_pos (by omega)]
  exact congrArg (fun z => X (ix4 b z h e)) (Fin.ext (by simp only [pos]; omega))

/-- The output at a position. -/
theorem o_at (x : FVec Ideal S2x256x64x1x12x128 .f32) (b : Fin 2) (p : Fin 16384) (c : Fin 1536) :
    oArr x (ix3 b p c) = x (ix6 b ⟨p.val / 64, by omega⟩ ⟨p.val % 64, by omega⟩ ⟨c.val / 1536, by omega⟩ ⟨c.val % 1536 / 128, by omega⟩ ⟨c.val % 128, by omega⟩) := by
  pointwise [oArr, rounded, wide, merged]
  refine congrArg₂ (fun u z => x (ix6 b _ _ u z _)) (Subsingleton.elim _ _) (Fin.ext ?_)
  show c.val / 128 = c.val % 1536 / 128
  omega

/-- A log-sum-exp at a position. -/
theorem l_at (x y : FVec Ideal S2x256x64x1x12 .f32) (b : Fin 2) (p : Fin 16384) (c : Fin 128) :
    lArr x y (ix3 b p c) = if hc : c.val % 128 < 12 then
      x (ix5 b ⟨p.val / 64, by omega⟩ ⟨p.val % 64, by omega⟩ ⟨c.val / 128, by omega⟩ ⟨c.val % 128, hc⟩)
        + Ideal.log (y (ix5 b ⟨p.val / 64, by omega⟩ ⟨p.val % 64, by omega⟩ ⟨c.val / 128, by omega⟩ ⟨c.val % 128, hc⟩)) else 0 := by
  pointwise [lArr, wideL, lanes, back]
  by_cases hc : c.val < 12
  · have hc' : c.val % 128 < 12 := by omega
    rw [dif_pos hc, dif_pos hc']
    have hx : ∀ (z : FVec Ideal S2x256x64x1x12 .f32) (n : Fin 256) (i : Fin 64) (r : Fin 1) (w : Fin 12), n.val = p.val / 64 → i.val = p.val % 64 → w.val = c.val % 128 →
        z (ix5 b n i r w) = z (ix5 b ⟨p.val / 64, by omega⟩ ⟨p.val % 64, by omega⟩ ⟨c.val / 128, by omega⟩ ⟨c.val % 128, hc'⟩) :=
      fun z n i r w hn hi hw => by
        rw [Fin.ext (b := ⟨p.val / 64, by omega⟩) hn, Fin.ext (b := ⟨p.val % 64, by omega⟩) hi, Fin.ext (b := ⟨c.val % 128, hc'⟩) hw,
          Subsingleton.elim r ⟨c.val / 128, by omega⟩]
    refine congrArg₂ (fun u v => u + Ideal.log v) (hx x _ _ _ _ ?_ ?_ ?_) (hx y _ _ _ _ ?_ ?_ ?_) <;> first | omega | (simp only <;> omega)
  · rw [dif_neg hc, dif_neg (by omega)]
    show (((0#32 : BitVec 32).toInt : ℝ) : EReal) = 0
    simp

/-- The reference's output is the attention's. -/
theorem final_o (Q K V : Arr) : oRes Q K V = fun i : S2x16384x1536.Idx =>
    attnOut 1 16384 Q K V ⟨(i 0).val, (i 0).isLt⟩ (i 1).val (i 2).val := by
  funext y
  obtain ⟨b, p, c, rfl⟩ : ∃ b p c, y = ix3 b p c := ⟨y 0, y 1, y 2, by funext a; fin_cases a <;> rfl⟩
  unfold oRes
  rw [o_at]
  exact rows_wide fits rfl (by decide) (cut Q) (cut K) (cut V) b p.val c.val (by omega) (by omega)

/-- The reference's log-sum-exps are the attention's. -/
theorem final_l (Q K : Arr) : lRes Q K = fun i : S2x16384x128.Idx =>
    attnLse 1 16384 Q K ⟨(i 0).val, (i 0).isLt⟩ (i 1).val (i 2).val := by
  funext y
  obtain ⟨b, p, c, rfl⟩ : ∃ b p c, y = ix3 b p c := ⟨y 0, y 1, y 2, by funext a; fin_cases a <;> rfl⟩
  unfold lRes
  rw [l_at]
  by_cases hc : c.val % 128 < 12
  · rw [dif_pos hc]
    exact lse_wide fits rfl (by decide) (cut Q) (cut K) b p.val c.val (by omega) (by omega) hc
  · rw [dif_neg hc]
    exact (lse_rest 16384 Q K b p.val c.val hc).symm

end Cert.Ref1

end
-- ==== Proof.Claims1.lean ====
/- The claims about the pattern with dilation 1. -/
module

public import proofs.«01_k».proof.Defs
public import proofs.«01_k».proof.Proof.Dil1
public import proofs.«01_k».proof.Proof.Ref1
public import proofs.«01_k».proof.Proof.Gen.Kernel1.Frame
public import proofs.«01_k».proof.Proof.Gen.Kernel1Ideal.Frame
public import proofs.«01_k».proof.Proof.Gen.Kernel1Ideal.Value
public import Idealize.ShloMosaic.Adequacy
public import Idealize.ShloMosaic.Init
public import Idealize.ShloMosaic.Lib.Quiescent

@[expose] public section

noncomputable section

namespace Cert.Claims1

open Idealize.ShloMosaic Idealize.SL.Sem

/-- The kernel runs, its arguments unchanged. -/
theorem frame_p : Cert.quiescent_Kernel1 := fun m ρ _ => Cert.Kernel1.Gen.frame m ρ

/-- The idealised kernel runs, its arguments unchanged. -/
theorem frame_pi : Cert.quiescent_Kernel1Ideal := fun m ρ _ => Cert.Kernel1Ideal.Gen.frame m ρ

/-- The reference runs, its arguments unchanged. -/
theorem frame_ri : Cert.quiescent_Reference1Ideal := fun m ρ _ =>
  (θ_run Cert.Reference1Ideal.defs _ _).mono
    (fun r h => ⟨fun c => (h c).2.2, Idealize.ShloMosaic.sem_eq_zero_of_no_sems (by decide) r.2⟩) (Cert.Ref1.run m ρ)

/-- The mask is a constant that the idealised kernel names −∞. -/
theorem preserves : Cert.preserves_Kernel1_Kernel1Ideal :=
  IdealRules.named_const.statement Cert.Kernel1Ideal.κ "mask" .f32 0xF149F2CA#32 ⊥ rfl

/-- The idealised kernel and the reference end with equal results. -/
theorem algebraic : Cert.algebraic_Kernel1Ideal_Reference1Ideal := by
  intro m g m' g' _ hagree
  refine ⟨_, _, Cert.Kernel1Ideal.Value.run_blocks m g, θ_run_mono (Cert.Ref1.run m' g') fun r h c => ?_⟩
  obtain ⟨ho, hl, hargs⟩ := h c
  obtain ⟨e0, e1, e2⟩ := hagree c
  refine ⟨?_, ?_, hargs⟩
  · refine Eq.trans ?_ (Cert.Dil1.final_o m c).symm
    rw [ho, Cert.Ref1.final_o, e0, e1, e2]
  · refine Eq.trans ?_ (Cert.Dil1.final_l m c).symm
    rw [hl, Cert.Ref1.final_l, e0, e1]

end Cert.Claims1

end
-- ==== Proof.Proj.lean ====
/- The layer's two projections as functions of their arrays: a row's root-mean-square norm, and the column order of the
   input projection's result. The rows of the output projection with its residual. -/
module

public import Idealize.ShloMosaic.Lib.Pipeline.ValueKit

@[expose] public section

noncomputable section

open Idealize.ShloMosaic

namespace Cert.Proj

/-- The activations: batch, position, feature. -/
abbrev Act := FVec Ideal ⟨3, ![2, 16384, 2048]⟩ .f32

/-- The gains of a norm. -/
abbrev Gain := FVec Ideal ⟨1, ![2048]⟩ .f32

/-- Feature `k` of a row under its root-mean-square norm: the mean's count and the epsilon as float constants. -/
def normRow (x g : Fin 2048 → EReal) (k : Fin 2048) : EReal :=
  x k * Ideal.rsqrt (Ideal.div (∑ l : Fin 2048, x l * x l) (Ideal.ofBits .f32 0x45000000#32) + Ideal.ofBits .f32 0x358637BD#32) * g k

/-- Row `r` of the activations, the batches one after the other. -/
def row (X : Act) (r : ℕ) (k : Fin 2048) : EReal :=
  X (ix3 ⟨r / 16384 % 2, Nat.mod_lt _ (by decide)⟩ ⟨r % 16384, Nat.mod_lt _ (by decide)⟩ k)

/-- Column `j` of the input projection's result is this column of the weights. -/
def src (j : ℕ) : ℕ :=
  if j < 4608 then j + 1568 else if j < 5632 then j - 4608 else if j < 6144 then j - 4576 else j - 5120

/-- It is one of theirs. -/
theorem src_lt {j : ℕ} (h : j < 6176) : src j < 6176 := by
  unfold src
  repeat' split
  all_goals omega

/-- The weights, and zero outside their columns. -/
def weight (W : FVec Ideal ⟨2, ![2048, 6176]⟩ .f32) (k : Fin 2048) (n : ℕ) : EReal :=
  if h : n < 6176 then W (ix2 k ⟨n, h⟩) else 0

/-- A column of the weights. -/
theorem weight_of (W : FVec Ideal ⟨2, ![2048, 6176]⟩ .f32) (k : Fin 2048) {n : ℕ} (h : n < 6176) : W (ix2 k ⟨n, h⟩) = weight W k n := by
  unfold weight
  rw [dif_pos h]

/-- The input projection of a normed row, in the column order of the result; zero in the columns after the last. -/
def inProj (X : Act) (g : Gain) (W : FVec Ideal ⟨2, ![2048, 6176]⟩ .f32) (r j : ℕ) : EReal :=
  if j < 6176 then ∑ k : Fin 2048, normRow (row X r) (fun k => g (ix1 k)) k * weight W k (src j) else 0

/-- A row of the layer's residual sum: the row of `X` and the row of `M` times the weights. -/
def outRow (M X : Act) (W : FVec Ideal ⟨2, ![2048, 2048]⟩ .f32) (r : ℕ) (k : Fin 2048) : EReal :=
  row X r k + ∑ l : Fin 2048, row M r l * W (ix2 l k)

/-- Nine runs of columns, one after the other, read at a column: the first three are the last of the source. -/
theorem ladder (f : ℕ → EReal) (j : ℕ) (z : EReal) :
    (if j < 1536 then f (1568 + j) else if j - 1536 < 1536 then f (3104 + (j - 1536))
      else if j - 1536 - 1536 < 1536 then f (4640 + (j - 1536 - 1536))
      else if j - 1536 - 1536 - 1536 < 256 then f (j - 1536 - 1536 - 1536)
      else if j - 1536 - 1536 - 1536 - 256 < 256 then f (256 + (j - 1536 - 1536 - 1536 - 256))
      else if j - 1536 - 1536 - 1536 - 256 - 256 < 512 then f (512 + (j - 1536 - 1536 - 1536 - 256 - 256))
      else if j - 1536 - 1536 - 1536 - 256 - 256 - 512 < 512 then f (1056 + (j - 1536 - 1536 - 1536 - 256 - 256 - 512))
      else if j - 1536 - 1536 - 1536 - 256 - 256 - 512 - 512 < 16 then f (1024 + (j - 1536 - 1536 - 1536 - 256 - 256 - 512 - 512))
      else if j - 1536 - 1536 - 1536 - 256 - 256 - 512 - 512 - 16 < 16 then
        f (1040 + (j - 1536 - 1536 - 1536 - 256 - 256 - 512 - 512 - 16))
      else z) = if j < 6176 then f (src j) else z := by
  unfold src
  repeat' split
  all_goals first | with_reducible rfl | (exfalso; omega) | exact congrArg f (by omega)

/-- Two choices on one condition, where each arm of the one is that arm of the other. -/
theorem choice {α : Type} {p : Prop} {_ : Decidable p} {a : p → α} {b c d : α} (h1 : ∀ h : p, a h = b) (h2 : ¬p → c = d) :
    (if h : p then a h else c) = if p then b else d := by
  by_cases h : p
  · rw [dif_pos h, if_pos h, h1 h]
  · rw [dif_neg h, if_neg h, h2 h]

end Cert.Proj

end
-- ==== Proof.InProj.lean ====
/- The input projection's kernel: its result array is the normed rows times the weights, in the array's column order. -/
module

public import proofs.«01_k».proof.Proof.Gen.Kernel2Ideal.Frame
public import Idealize.ShloMosaic.Lib.StableHlo.RunRead
public import proofs.«01_k».proof.Proof.Host
public import proofs.«01_k».proof.Proof.Proj

@[expose] public section

set_option maxRecDepth 16384

noncomputable section

open Idealize.ShloMosaic Idealize.ShloMosaic.TcCoe Idealize.SL.Sem
open Idealize.ShloMosaic.Pipeline (Dat)

namespace Cert.InProj

open Cert.Kernel2Ideal Cert.Kernel2Ideal.Gen Cert.Proj

/-- The scratch that a run's first point stores: its rows, normed. -/
theorem hpay1 (x : Vec Ideal S1024x2048 .f32) (g : Vec Ideal S1x2048 .f32) (a : Fin 1024) (k : Fin 2048) :
    k0_pay1 x g (ix2 a k) = normRow (fun k => x (ix2 a k)) (fun k => g (ix2 0 k)) k := by
  unfold normRow
  pointwise [k0_pay1]

/-- What every point stores: the scratch times its block of the weights. -/
theorem hpay2 (x : Vec Ideal S1024x2048 .bf16) (w : Vec Ideal S2048x1280 .bf16) (a : Fin 1024) (b : Fin 1280) :
    k0_pay2 x w (ix2 a b) = ∑ k : Fin 2048, x (ix2 a k) * w (ix2 k b) := by
  pointwise [k0_pay2]

/-- Ten groups of columns side by side. -/
def join (A B C : FVec Ideal S2048x1536 .f32) (D E : FVec Ideal S2048x256 .f32) (G H : FVec Ideal S2048x512 .f32)
    (I J : FVec Ideal S2048x16 .f32) (Z : FVec Ideal S2048x224 .f32) : FVec Ideal S2048x6400 .f32 :=
  concatenate S2048x6400 1 [⟨S2048x1536, A⟩, ⟨S2048x1536, B⟩, ⟨S2048x1536, C⟩, ⟨S2048x256, D⟩, ⟨S2048x256, E⟩, ⟨S2048x512, G⟩,
    ⟨S2048x512, H⟩, ⟨S2048x16, I⟩, ⟨S2048x16, J⟩, ⟨S2048x224, Z⟩]
    concatenates_S2048x1536_S2048x1536_S2048x1536_S2048x256_S2048x256_S2048x512_S2048x512_S2048x16_S2048x16_S2048x224_S2048x6400_d1

/-- The weights in the result's column order. -/
def ordered (W : FVec Ideal S2048x6176 .f32) : FVec Ideal S2048x6400 .f32 :=
  join (extractStridedSlice S2048x1536 ![0, 1568] W slices_S2048x6176_S2048x1536_0_1568)
    (extractStridedSlice S2048x1536 ![0, 3104] W slices_S2048x6176_S2048x1536_0_3104)
    (extractStridedSlice S2048x1536 ![0, 4640] W slices_S2048x6176_S2048x1536_0_4640)
    (extractStridedSlice S2048x256 ![0, 0] W slices_S2048x6176_S2048x256_0_0)
    (extractStridedSlice S2048x256 ![0, 256] W slices_S2048x6176_S2048x256_0_256)
    (extractStridedSlice S2048x512 ![0, 512] W slices_S2048x6176_S2048x512_0_512)
    (extractStridedSlice S2048x512 ![0, 1056] W slices_S2048x6176_S2048x512_0_1056)
    (extractStridedSlice S2048x16 ![0, 1024] W slices_S2048x6176_S2048x16_0_1024)
    (extractStridedSlice S2048x16 ![0, 1040] W slices_S2048x6176_S2048x16_0_1040)
    (broadcastInDim S2048x224 ![] bcast_S_S2048x224 (constant (F := Ideal) S_ .f32 0x00000000#32))

/-- The weights in the result's column order, read at a column. -/
theorem ordered_at (W : FVec Ideal S2048x6176 .f32) (k : Fin 2048) (b : Fin 6400) :
    ordered W (ix2 k b) = if b.val < 6176 then weight W k (src b.val) else 0 := by
  refine Eq.trans ?_ (ladder (weight W k) b.val 0)
  pointwise [ordered, join]
  iterate 9 (apply choice; rotate_left; intro _)
  all_goals first | exact fun _ => weight_of W k _ | rfl

section

open Idealize.ShloMosaic.StableHlo

variable (V : Valuation τ sig (Elt Ideal))

/-- The host's last two operations before the region. -/
def tail : List (HloOp τ sig (Elt Ideal)) := hostOps0.drop 13
/-- The host's operations before those. -/
def head : List (HloOp τ sig (Elt Ideal)) := hostOps0.take 13

/-- The joined groups of columns. -/
theorem tail_v13 : after tail V (Proc.devRef .tc main_v13)
    = truncf .bf16 (join (V (Proc.devRef .tc main_v8)) (V (Proc.devRef .tc main_v9)) (V (Proc.devRef .tc main_v10)) (V (Proc.devRef .tc main_v2))
        (V (Proc.devRef .tc main_v3)) (V (Proc.devRef .tc main_v4)) (V (Proc.devRef .tc main_v7)) (V (Proc.devRef .tc main_v5))
        (V (Proc.devRef .tc main_v6)) (V (Proc.devRef .tc main_v11))) bitsLt_bf16_f32 := by
  after_reads_simp
  rfl

/-- The groups of columns. -/
theorem head_groups :
    after head V (Proc.devRef .tc main_v8) = extractStridedSlice S2048x1536 ![0, 1568] (V (Proc.devRef .tc main_arg2)) slices_S2048x6176_S2048x1536_0_1568
    ∧ after head V (Proc.devRef .tc main_v9) = extractStridedSlice S2048x1536 ![0, 3104] (V (Proc.devRef .tc main_arg2)) slices_S2048x6176_S2048x1536_0_3104
    ∧ after head V (Proc.devRef .tc main_v10) = extractStridedSlice S2048x1536 ![0, 4640] (V (Proc.devRef .tc main_arg2)) slices_S2048x6176_S2048x1536_0_4640
    ∧ after head V (Proc.devRef .tc main_v2) = extractStridedSlice S2048x256 ![0, 0] (V (Proc.devRef .tc main_arg2)) slices_S2048x6176_S2048x256_0_0
    ∧ after head V (Proc.devRef .tc main_v3) = extractStridedSlice S2048x256 ![0, 256] (V (Proc.devRef .tc main_arg2)) slices_S2048x6176_S2048x256_0_256
    ∧ after head V (Proc.devRef .tc main_v4) = extractStridedSlice S2048x512 ![0, 512] (V (Proc.devRef .tc main_arg2)) slices_S2048x6176_S2048x512_0_512
    ∧ after head V (Proc.devRef .tc main_v7) = extractStridedSlice S2048x512 ![0, 1056] (V (Proc.devRef .tc main_arg2)) slices_S2048x6176_S2048x512_0_1056
    ∧ after head V (Proc.devRef .tc main_v5) = extractStridedSlice S2048x16 ![0, 1024] (V (Proc.devRef .tc main_arg2)) slices_S2048x6176_S2048x16_0_1024
    ∧ after head V (Proc.devRef .tc main_v6) = extractStridedSlice S2048x16 ![0, 1040] (V (Proc.devRef .tc main_arg2)) slices_S2048x6176_S2048x16_0_1040
    ∧ after head V (Proc.devRef .tc main_v11) = broadcastInDim S2048x224 ![] bcast_S_S2048x224 (constant (F := Ideal) S_ .f32 0x00000000#32) := by
  refine ⟨?_, ?_, ?_, ?_, ?_, ?_, ?_, ?_, ?_, ?_⟩ <;> after_reads_simp

/-- The weights as the region finds them. -/
theorem host_v13 : after hostOps0 V (Proc.devRef .tc main_v13) = truncf .bf16 (ordered (V (Proc.devRef .tc main_arg2))) bitsLt_bf16_f32 := by
  obtain ⟨h0, h1, h2, h3, h4, h5, h6, h7, h8, h9⟩ := head_groups V
  rw [Cert.Host.after_cut V 13]
  refine (tail_v13 (after head V)).trans ?_
  rw [h0, h1, h2, h3, h4, h5, h6, h7, h8, h9]
  rfl

end

variable (m : (ℓ : Loc nD τ sig) → Buf (Elt Ideal) ℓ)

/-- Where every window's block lies, by the grid point's number. -/
theorem idx : ∀ t : Fin cfg0.N,
    win0_0.index t = ![t.val / 5, 0] ∧ win0_1.index t = ![0, 0] ∧ win0_2.index t = ![0, t.val % 5]
    ∧ win0_3.index t = ![t.val / 5, t.val % 5] ∧ t.val / 5 < 32 :=
  (by decide +kernel : ∀ t : Fin grid0.N, _)

/-- The staged rows of a point. -/
theorem rd0 (c : Dev nD) (t : Fin cfg0.N) (a : Fin 1024) (k : Fin 2048) :
    (iblk m c 0 t : Vec Ideal S1024x2048 .f32) (ix2 a k)
      = row (m ((c : Thread nD τ).loc main_arg0)) (1024 * (t.val / 5) + a.val) k := by
  have ht := (idx t).2.2.2.2
  unfold row
  blk_simp [iblk]
  entry_read
  pointwise []
  blk_ext [idx t]

/-- The staged gains. -/
theorem rd1 (c : Dev nD) (t : Fin cfg0.N) (k : Fin 2048) :
    (iblk m c 1 t : Vec Ideal S1x2048 .f32) (ix2 0 k) = (m ((c : Thread nD τ).loc main_arg1) : Gain) (ix1 k) := by
  blk_simp [iblk]
  entry_read
  pointwise []
  blk_ext [idx t]

/-- The staged columns of the weights. -/
theorem rd2 (c : Dev nD) (t : Fin cfg0.N) (k : Fin 2048) (b : Fin 1280) :
    (iblk m c 2 t : Vec Ideal S2048x1280 .bf16) (ix2 k b)
      = if 1280 * (t.val % 5) + b.val < 6176 then weight (m ((c : Thread nD τ).loc main_arg2)) k (src (1280 * (t.val % 5) + b.val)) else 0 := by
  refine Eq.trans ?_ (ordered_at (m ((c : Thread nD τ).loc main_arg2)) k ⟨1280 * (t.val % 5) + b.val, by omega⟩)
  blk_simp [iblk]
  rw [show V m c main_v13 = _ from host_v13 _]
  refine congrArg (ordered _) ?_
  blk_ext [idx t]

/-- The scratch after a point holds its rows, normed: a run's first point stores them and the others keep them. -/
theorem scratch (c : Dev nD) (n : ℕ) (hn : n < cfg0.N) (a : Fin 1024) (k : Fin 2048) :
    (outsAt0 m c n hn).2 (ix2 a k)
      = normRow (row (m ((c : Thread nD τ).loc main_arg0)) (1024 * (n / 5) + a.val)) (fun k => (m ((c : Thread nD τ).loc main_arg1) : Gain) (ix1 k)) k := by
  induction n using Nat.strong_induction_on with
  | _ n ih =>
    by_cases h : n % 5 = 0
    · rw [outsAt0_A m c ⟨n, hn⟩ h]
      frame_out
      rw [hpay1]
      congr 1
      · funext k
        exact rd0 m c ⟨n, hn⟩ a k
      · funext k
        exact rd1 m c ⟨n, hn⟩ k
    · rw [outsAt0_B m c ⟨n, hn⟩ h]
      dsimp only
      unfold sout0_B_0
      refine (ih (n - 1) (by omega) _).trans ?_
      rw [show (n - 1) / 5 = n / 5 by omega]

/-- What a point stores in its block of the result. -/
theorem point (c : Dev nD) (t : Fin cfg0.N) (a : Fin 1024) (b : Fin 1280) :
    (outsAt0 m c t.val t.isLt).1 (ix2 a b) = inProj (m ((c : Thread nD τ).loc main_arg0)) (m ((c : Thread nD τ).loc main_arg1))
      (m ((c : Thread nD τ).loc main_arg2)) (1024 * (t.val / 5) + a.val) (1280 * (t.val % 5) + b.val) := by
  have key : ∀ s : Vec Ideal S1024x2048 .bf16, (∀ k, s (ix2 a k) = normRow (row (m ((c : Thread nD τ).loc main_arg0)) (1024 * (t.val / 5) + a.val)) (fun k => (m ((c : Thread nD τ).loc main_arg1) : Gain) (ix1 k)) k) →
      k0_pay2 s (iblk m c 2 t) (ix2 a b) = inProj (m ((c : Thread nD τ).loc main_arg0)) (m ((c : Thread nD τ).loc main_arg1))
      (m ((c : Thread nD τ).loc main_arg2)) (1024 * (t.val / 5) + a.val) (1280 * (t.val % 5) + b.val) := fun s hs => by
    rw [hpay2]
    unfold inProj
    split
    · refine Fin.sum_fin_congr fun k => ?_
      rw [hs, rd2, if_pos ‹_›]
    · refine Finset.sum_eq_zero fun k _ => ?_
      rw [rd2, if_neg ‹_›, mul_zero]
  by_cases h : t.val % 5 = 0
  · rw [outsAt0_A m c t h]
    frame_out
    refine key _ fun k => ?_
    rw [hpay1]
    congr 1
    · funext k
      exact rd0 m c t a k
    · funext k
      exact rd1 m c t k
  · rw [outsAt0_B m c t h]
    frame_out
    rw [(Memref.isWhole_whole _).read_unread]
    refine key _ fun k => (scratch m c (t.val - 1) _ a k).trans ?_
    rw [show (t.val - 1) / 5 = t.val / 5 by omega]

/-- The result array after the run is the input projection. -/
theorem final (c : Dev nD) : (dats m 0 c).arrAt 3 cfg0.N = fun i : S32768x6400.Idx =>
    inProj (m ((c : Thread nD τ).loc main_arg0)) (m ((c : Thread nD τ).loc main_arg1)) (m ((c : Thread nD τ).loc main_arg2)) (i 0).val (i 1).val := by
  refine (dats m 0 c).arrAt_eq_of_covers 3 _ (by decide +kernel) fun t hf y => ?_
  obtain ⟨a, b, rfl⟩ : ∃ a b, y = ix2 a b := ⟨y 0, y 1, by funext i; fin_cases i <;> rfl⟩
  blk_simp
  rw [after0_3]
  refine (point m c t a b).trans ?_
  congr 1 <;> simp [idx t, Nat.mul_comm]

end Cert.InProj

end
-- ==== Proof.RefIn.lean ====
/- The reference of the input projection: its result is the normed rows times the weights, in the array's column order. -/
module

public import proofs.«01_k».proof.Proof.Gen.Reference2Ideal.Run
public import proofs.«01_k».proof.Proof.Proj

@[expose] public section

set_option maxRecDepth 16384

noncomputable section

open Idealize.ShloMosaic Idealize.ShloMosaic.TcCoe Idealize.SL.Sem

namespace Cert.RefIn

open Cert.Reference2Ideal Cert.Reference2Ideal.Gen Cert.Reference2Ideal.Value Cert.Proj

/-- The normed activations times the weights. -/
def prod (X : Act) (g : Gain) (W : FVec Ideal S2048x6176 .f32) : FVec Ideal S2x16384x6176 .f32 :=
  Host.dotGeneral dot_S2x16384x2048_S2048x6176_S2x16384x6176_2_0_01_1_n_n none
    (mulf (mulf X (broadcastInDim S2x16384x2048 ![0, 1, 2] bcast_S2x16384x1_S2x16384x2048_0_1_2 (Host.rsqrt (addf (Host.divf
      (broadcastInDim S2x16384x1 ![0, 1] bcast_S2x16384_S2x16384x1_0_1
        (Host.reduceAdd (mulf X X) (constant S_ .f32 0x00000000#32) reducesTo_S2x16384x2048_S2x16384_d2 h_S_))
      (broadcastInDim S2x16384x1 ![] bcast_S_S2x16384x1 (constant S_ .f32 0x45000000#32)))
      (broadcastInDim S2x16384x1 ![] bcast_S_S2x16384x1 (constant S_ .f32 0x358637BD#32))))))
      (broadcastInDim S2x16384x2048 ![0, 1, 2] bcast_S1x1x2048_S2x16384x2048_0_1_2
        (broadcastInDim S1x1x2048 ![2] bcast_S2048_S1x1x2048_2 g))) W

/-- The product at an index. -/
theorem prod_at (X : Act) (g : Gain) (W : FVec Ideal S2048x6176 .f32) (b : Fin 2) (s : Fin 16384) (j : Fin 6176) :
    prod X g W (ix3 b s j) = ∑ k : Fin 2048, normRow (fun k => X (ix3 b s k)) (fun k => g (ix1 k)) k * W (ix2 k j) := by
  unfold normRow
  pointwise [prod]

/-- The product's groups of columns, in the result's order. -/
def groups (H : FVec Ideal S2x16384x6176 .f32) : FVec Ideal S2x16384x6176 .f32 :=
  fn_main_v23 (F := Ideal)
    (extractStridedSlice S2x16384x1536 ![0, 0, 1568] H slices_S2x16384x6176_S2x16384x1536_0_0_1568)
    (extractStridedSlice S2x16384x1536 ![0, 0, 3104] H slices_S2x16384x6176_S2x16384x1536_0_0_3104)
    (extractStridedSlice S2x16384x1536 ![0, 0, 4640] H slices_S2x16384x6176_S2x16384x1536_0_0_4640)
    (extractStridedSlice S2x16384x256 ![0, 0, 0] H slices_S2x16384x6176_S2x16384x256_0_0_0)
    (extractStridedSlice S2x16384x256 ![0, 0, 256] H slices_S2x16384x6176_S2x16384x256_0_0_256)
    (extractStridedSlice S2x16384x512 ![0, 0, 512] H slices_S2x16384x6176_S2x16384x512_0_0_512)
    (extractStridedSlice S2x16384x512 ![0, 0, 1056] H slices_S2x16384x6176_S2x16384x512_0_0_1056)
    (extractStridedSlice S2x16384x16 ![0, 0, 1024] H slices_S2x16384x6176_S2x16384x16_0_0_1024)
    (extractStridedSlice S2x16384x16 ![0, 0, 1040] H slices_S2x16384x6176_S2x16384x16_0_0_1040)

/-- A column of a row of the product, and zero outside its columns. -/
def col (H : FVec Ideal S2x16384x6176 .f32) (b : Fin 2) (s : Fin 16384) (n : ℕ) : EReal :=
  if h : n < 6176 then H (ix3 b s ⟨n, h⟩) else 0

/-- It is the product's. -/
theorem col_of (H : FVec Ideal S2x16384x6176 .f32) (b : Fin 2) (s : Fin 16384) {n : ℕ} (h : n < 6176) : H (ix3 b s ⟨n, h⟩) = col H b s n := by
  unfold col
  rw [dif_pos h]

/-- The groups read at a column. -/
theorem groups_at (H : FVec Ideal S2x16384x6176 .f32) (b : Fin 2) (s : Fin 16384) (j : Fin 6176) :
    groups H (ix3 b s j) = H (ix3 b s ⟨src j.val, src_lt j.isLt⟩) := by
  refine Eq.trans ?_ ((ladder (col H b s) j.val 0).trans ((if_pos j.isLt).trans (col_of H b s (src_lt j.isLt)).symm))
  pointwise [groups, fn_main_v23]
  simp only [col_of H b s, dite_eq_ite]
  iterate 8 (refine ite_congr rfl (fun _ => rfl) fun _ => ?_)
  rw [if_pos (by omega)]

/-- The reference's result. -/
def res (X : Act) (g : Gain) (W : FVec Ideal S2048x6176 .f32) : FVec Ideal S32768x6400 .bf16 :=
  truncf .bf16 (pad S32768x6400 ![0, 0] ![0, 224] ![0, 0] (shapeCast S32768x6176 (groups (prod X g W)) shapeCasts_S2x16384x6176_S32768x6176)
    (sitofp .f32 (constantI S_ 32 0#32)) pads_S32768x6176_S32768x6400_000_02240 h_S_) bitsLt_bf16_f32

/-- The result that the reference's run ends with. -/
theorem res_eq (m : (ℓ : Loc nD τ sig) → Buf (Elt Ideal) ℓ) (c : Dev nD) : res_out0 m c
    = res (m ((c.tc : Thread nD τ).loc main_arg0)) (m ((c.tc : Thread nD τ).loc main_arg1)) (m ((c.tc : Thread nD τ).loc main_arg2)) := by
  unfold res_out0 res_main_v26 res groups prod fn_main_v23
  rfl

/-- The reference's result is the input projection. -/
theorem final (X : Act) (g : Gain) (W : FVec Ideal S2048x6176 .f32) : res X g W = fun i : S32768x6400.Idx => inProj X g W (i 0).val (i 1).val := by
  funext y
  obtain ⟨r, j, rfl⟩ : ∃ r j, y = ix2 r j := ⟨y 0, y 1, by funext i; fin_cases i <;> rfl⟩
  pointwise [res]
  unfold inProj
  refine choice (fun h => ?_) fun h => ?_
  · rw [groups_at, prod_at]
    refine Fin.sum_fin_congr fun k => ?_
    rw [weight_of W k (src_lt h)]
    congr 2
    funext k
    exact congrArg (fun b => X (ix3 b _ k)) (Fin.ext (by dsimp only; omega))
  · simp [FloatOps.sitofp]

end Cert.RefIn

end
-- ==== Proof.Claims2.lean ====
/- The claims about the input projection. -/
module

public import proofs.«01_k».proof.Defs
public import proofs.«01_k».proof.Proof.InProj
public import proofs.«01_k».proof.Proof.RefIn
public import proofs.«01_k».proof.Proof.Gen.Kernel2
public import proofs.«01_k».proof.Proof.Gen.Kernel2Ideal.Frame
public import proofs.«01_k».proof.Proof.Gen.Kernel2Ideal.Value
public import Idealize.ShloMosaic.Adequacy
public import Idealize.ShloMosaic.Init
public import Idealize.ShloMosaic.Lib.Quiescent

@[expose] public section

noncomputable section

namespace Cert.Claims2

open Idealize.ShloMosaic Idealize.SL.Sem

/-- The kernel's body table is the idealised kernel's: the two have the same text. -/
theorem defs_eq : Cert.Kernel2.defs (F := Bits) = Cert.Kernel2Ideal.defs (F := Bits) :=
  congrArg (Pipeline.defs Cert.Kernel2Ideal.pcfgs) (congrArg Defs.onTc (funext fun l => funext fun a => by
    match l, a with
    | 0, (t, s) => rfl
    | ⟨_ + 1, h⟩, _ => exact absurd h (Nat.not_lt.2 (Nat.le_add_left _ _))))

/-- The kernel runs, its arguments unchanged: by the idealised kernel's run, which is for any float values. -/
theorem frame_p : Cert.quiescent_Kernel2 := fun m ρ _ => by
  rw [defs_eq]
  exact Cert.Kernel2Ideal.Gen.frame (F := Bits) m ρ

/-- The idealised kernel runs, its arguments unchanged. -/
theorem frame_pi : Cert.quiescent_Kernel2Ideal := fun m ρ _ => Cert.Kernel2Ideal.Gen.frame m ρ

/-- The reference runs, its arguments unchanged. -/
theorem frame_ri : Cert.quiescent_Reference2Ideal := fun m ρ _ =>
  (θ_run Cert.Reference2Ideal.defs _ _).mono
    (fun r h => ⟨fun c => (h c).2, Idealize.ShloMosaic.sem_eq_zero_of_no_sems (by decide) r.2⟩) (Cert.Reference2Ideal.Value.run m ρ)

/-- The idealised kernel rewrites nothing. -/
theorem preserves : Cert.preserves_Kernel2_Kernel2Ideal := trivial

/-- The idealised kernel and the reference end with equal results. -/
theorem algebraic : Cert.algebraic_Kernel2Ideal_Reference2Ideal := by
  intro m g m' g' _ hagree
  refine ⟨_, Cert.Kernel2Ideal.Value.run_blocks m g, θ_run_mono (Cert.Reference2Ideal.Value.run m' g') fun r h c => ?_⟩
  obtain ⟨ho, hargs⟩ := h c
  obtain ⟨e0, e1, e2⟩ := hagree c
  refine ⟨?_, hargs⟩
  refine Eq.trans ?_ (Cert.InProj.final m c).symm
  rw [ho]
  refine (Cert.RefIn.res_eq m' c).trans ?_
  rw [Cert.RefIn.final, e0, e1, e2]

end Cert.Claims2

end
-- ==== Proof.OutProj.lean ====
/- The output projection's kernel: its result arrays are the residual sum and, transposed, its normed rows. -/
module

public import proofs.«01_k».proof.Proof.Gen.Kernel3Ideal.Frame
public import Idealize.ShloMosaic.Lib.StableHlo.RunRead
public import proofs.«01_k».proof.Proof.Proj

@[expose] public section

set_option maxRecDepth 16384

noncomputable section

open Idealize.ShloMosaic Idealize.ShloMosaic.TcCoe Idealize.SL.Sem
open Idealize.ShloMosaic.Pipeline (Dat)

namespace Cert.OutProj

open Cert.Kernel3Ideal Cert.Kernel3Ideal.Gen Cert.Proj

/-- The first store: the rows of the residual and the rows times the weights. -/
theorem hpay1 (x : Vec Ideal S512x2048 .f32) (y : Vec Ideal S512x2048 .bf16) (w : Vec Ideal S2048x2048 .bf16) (a : Fin 512) (k : Fin 2048) :
    k0_pay1 x y w (ix2 a k) = x (ix2 a k) + ∑ l : Fin 2048, y (ix2 a l) * w (ix2 l k) := by
  pointwise [k0_pay1]

/-- The second store: the first's rows, normed, as columns. -/
theorem hpay2 (x : Vec Ideal S512x2048 .f32) (y : Vec Ideal S512x2048 .bf16) (w : Vec Ideal S2048x2048 .bf16) (g : Vec Ideal S1x2048 .f32)
    (k : Fin 2048) (a : Fin 512) :
    k0_pay2 x y w g (ix2 k a) = normRow (fun k => k0_pay1 x y w (ix2 a k)) (fun k => g (ix2 0 k)) k := by
  unfold normRow
  pointwise [k0_pay2]

variable (m : (ℓ : Loc nD τ sig) → Buf (Elt Ideal) ℓ)

/-- The block that a point reads of each array, and the one it writes. -/
theorem idx : ∀ t : Fin cfg0.N,
    win0_0.index t = ![t.val, 0] ∧ win0_1.index t = ![0, 0] ∧ win0_2.index t = ![t.val, 0] ∧ win0_3.index t = ![0, 0]
    ∧ win0_4.index t = ![t.val, 0] ∧ win0_5.index t = ![0, t.val] ∧ t.val < 64 :=
  (by decide +kernel : ∀ t : Fin grid0.N, _)

/-- The staged rows that the weights multiply. -/
theorem rd0 (c : Dev nD) (t : Fin cfg0.N) (a : Fin 512) (k : Fin 2048) :
    (iblk m c 0 t : Vec Ideal S512x2048 .bf16) (ix2 a k) = row (m ((c : Thread nD τ).loc main_arg0)) (512 * t.val + a.val) k := by
  have ht := (idx t).2.2.2.2.2.2
  unfold row
  blk_simp [iblk]
  entry_read
  pointwise []
  blk_ext [idx t]

/-- The staged weights. -/
theorem rd1 (c : Dev nD) (t : Fin cfg0.N) (l k : Fin 2048) :
    (iblk m c 1 t : Vec Ideal S2048x2048 .bf16) (ix2 l k) = (m ((c : Thread nD τ).loc main_arg1) : FVec Ideal S2048x2048 .f32) (ix2 l k) := by
  blk_simp [iblk]
  entry_read
  pointwise []
  blk_ext [idx t]

/-- The staged rows of the residual. -/
theorem rd2 (c : Dev nD) (t : Fin cfg0.N) (a : Fin 512) (k : Fin 2048) :
    (iblk m c 2 t : Vec Ideal S512x2048 .f32) (ix2 a k) = row (m ((c : Thread nD τ).loc main_arg2)) (512 * t.val + a.val) k := by
  have ht := (idx t).2.2.2.2.2.2
  unfold row
  blk_simp [iblk]
  entry_read
  pointwise []
  blk_ext [idx t]

/-- The staged gains. -/
theorem rd3 (c : Dev nD) (t : Fin cfg0.N) (k : Fin 2048) :
    (iblk m c 3 t : Vec Ideal S1x2048 .f32) (ix2 0 k) = (m ((c : Thread nD τ).loc main_arg3) : Gain) (ix1 k) := by
  blk_simp [iblk]
  entry_read
  pointwise []
  blk_ext [idx t]

/-- A row of a point's first store. -/
theorem sum_at (c : Dev nD) (t : Fin cfg0.N) (a : Fin 512) (k : Fin 2048) :
    k0_pay1 (iblk m c 2 t) (iblk m c 0 t) (iblk m c 1 t) (ix2 a k)
      = outRow (m ((c : Thread nD τ).loc main_arg0)) (m ((c : Thread nD τ).loc main_arg2)) (m ((c : Thread nD τ).loc main_arg1)) (512 * t.val + a.val) k := by
  rw [hpay1, rd2]
  unfold outRow
  congr 1
  refine Fin.sum_fin_congr fun l => ?_
  rw [rd0, rd1]

/-- The first result array after the run is the residual sum. -/
theorem final_x (c : Dev nD) : (dats m 0 c).arrAt 4 cfg0.N = fun i : S32768x2048.Idx =>
    outRow (m ((c : Thread nD τ).loc main_arg0)) (m ((c : Thread nD τ).loc main_arg2)) (m ((c : Thread nD τ).loc main_arg1)) (i 0).val ⟨(i 1).val, (i 1).isLt⟩ := by
  refine (dats m 0 c).arrAt_eq_of_covers 4 _ (by decide +kernel) fun t hf y => ?_
  obtain ⟨a, b, rfl⟩ : ∃ a b, y = ix2 a b := ⟨y 0, y 1, by funext i; fin_cases i <;> rfl⟩
  blk_simp
  rw [after0_4]
  unfold out0_4
  frame_out
  refine (sum_at m c t a b).trans ?_
  congr 1 <;> simp [idx t, Nat.mul_comm]

/-- The second result array after the run is the residual sum's normed rows, as columns. -/
theorem final_n (c : Dev nD) : (dats m 0 c).arrAt 5 cfg0.N = fun i : S2048x32768.Idx =>
    normRow (outRow (m ((c : Thread nD τ).loc main_arg0)) (m ((c : Thread nD τ).loc main_arg2)) (m ((c : Thread nD τ).loc main_arg1)) (i 1).val)
      (fun k => (m ((c : Thread nD τ).loc main_arg3) : Gain) (ix1 k)) ⟨(i 0).val, (i 0).isLt⟩ := by
  refine (dats m 0 c).arrAt_eq_of_covers 5 _ (by decide +kernel) fun t hf y => ?_
  obtain ⟨a, b, rfl⟩ : ∃ a b, y = ix2 a b := ⟨y 0, y 1, by funext i; fin_cases i <;> rfl⟩
  blk_simp
  rw [after0_5]
  unfold out0_5
  frame_out
  rw [hpay2]
  simp only [sum_at, rd3]
  congr 1 <;> simp [idx t, Nat.mul_comm]

end Cert.OutProj

end
-- ==== Proof.RefOut.lean ====
/- The reference of the output projection: its results are the residual sum and, transposed, its normed rows. -/
module

public import proofs.«01_k».proof.Proof.Gen.Reference3Ideal.Run
public import proofs.«01_k».proof.Proof.Proj

@[expose] public section

set_option maxRecDepth 16384

noncomputable section

open Idealize.ShloMosaic Idealize.ShloMosaic.TcCoe Idealize.SL.Sem

namespace Cert.RefOut

open Cert.Reference3Ideal Cert.Reference3Ideal.Gen Cert.Reference3Ideal.Value Cert.Proj

/-- The residual sum. -/
def total (M X : Act) (W : FVec Ideal S2048x2048 .f32) : Act :=
  addf X (Host.dotGeneral dot_S2x16384x2048_S2048x2048_S2x16384x2048_2_0_01_1_n_n none M W)

/-- Its rows, normed. -/
def normed (H : Act) (g : Gain) : Act :=
  mulf (mulf H (broadcastInDim S2x16384x2048 ![0, 1, 2] bcast_S2x16384x1_S2x16384x2048_0_1_2 (Host.rsqrt (addf (Host.divf
      (broadcastInDim S2x16384x1 ![0, 1] bcast_S2x16384_S2x16384x1_0_1
        (Host.reduceAdd (mulf H H) (constant S_ .f32 0x00000000#32) reducesTo_S2x16384x2048_S2x16384_d2 h_S_))
      (broadcastInDim S2x16384x1 ![] bcast_S_S2x16384x1 (constant S_ .f32 0x45000000#32)))
      (broadcastInDim S2x16384x1 ![] bcast_S_S2x16384x1 (constant S_ .f32 0x358637BD#32))))))
      (broadcastInDim S2x16384x2048 ![0, 1, 2] bcast_S1x1x2048_S2x16384x2048_0_1_2
        (broadcastInDim S1x1x2048 ![2] bcast_S2048_S1x1x2048_2 g))

/-- The first result of the reference. -/
def res_x (H : Act) : FVec Ideal S32768x2048 .f32 := shapeCast S32768x2048 H shapeCasts_S2x16384x2048_S32768x2048

/-- The second result of the reference. -/
def res_n (H : Act) : FVec Ideal S2048x32768 .bf16 :=
  truncf .bf16 (transpose S2048x32768 [1, 0] (shapeCast S32768x2048 H shapeCasts_S2x16384x2048_S32768x2048)
    transposes_S32768x2048_S2048x32768_1_0) bitsLt_bf16_f32

/-- The run of the reference with its results named. -/
theorem run_named (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v15)
        = res_x (total (m ((c.tc : Thread nD τ).loc main_arg0)) (m ((c.tc : Thread nD τ).loc main_arg2)) (m ((c.tc : Thread nD τ).loc main_arg1)))
      ∧ r.2.mem ((c.tc : Thread nD τ).loc main_v18)
        = res_n (normed (total (m ((c.tc : Thread nD τ).loc main_arg0)) (m ((c.tc : Thread nD τ).loc main_arg2)) (m ((c.tc : Thread nD τ).loc main_arg1)))
          (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  run m ρ

/-- The sum at an index. -/
theorem total_at (M X : Act) (W : FVec Ideal S2048x2048 .f32) (b : Fin 2) (s : Fin 16384) (k : Fin 2048) :
    total M X W (ix3 b s k) = X (ix3 b s k) + ∑ l : Fin 2048, M (ix3 b s l) * W (ix2 l k) := by
  pointwise [total]

/-- The normed rows at an index. -/
theorem normed_at (H : Act) (g : Gain) (b : Fin 2) (s : Fin 16384) (k : Fin 2048) :
    normed H g (ix3 b s k) = normRow (fun k => H (ix3 b s k)) (fun k => g (ix1 k)) k := by
  unfold normRow
  pointwise [normed]

/-- A row of the sum, the batches one after the other. -/
theorem total_row (M X : Act) (W : FVec Ideal S2048x2048 .f32) (r : ℕ) (h : r / 16384 < 2) (h' : r % 16384 < 16384) (k : Fin 2048) :
    total M X W (ix3 ⟨r / 16384, h⟩ ⟨r % 16384, h'⟩ k) = outRow M X W r k := by
  rw [total_at]
  unfold outRow row
  simp only [Nat.mod_eq_of_lt h]

/-- The first result is the residual sum. -/
theorem final_x (M X : Act) (W : FVec Ideal S2048x2048 .f32) :
    res_x (total M X W) = fun i : S32768x2048.Idx => outRow M X W (i 0).val ⟨(i 1).val, (i 1).isLt⟩ := by
  funext y
  obtain ⟨r, k, rfl⟩ : ∃ r k, y = ix2 r k := ⟨y 0, y 1, by funext i; fin_cases i <;> rfl⟩
  pointwise [res_x]
  exact total_row M X W _ _ _ _

/-- The second result is the residual sum's normed rows, as columns. -/
theorem final_n (M X : Act) (g : Gain) (W : FVec Ideal S2048x2048 .f32) :
    res_n (normed (total M X W) g)
      = fun i : S2048x32768.Idx => normRow (outRow M X W (i 1).val) (fun k => g (ix1 k)) ⟨(i 0).val, (i 0).isLt⟩ := by
  funext y
  obtain ⟨k, r, rfl⟩ : ∃ k r, y = ix2 k r := ⟨y 0, y 1, by funext i; fin_cases i <;> rfl⟩
  pointwise [res_n]
  rw [normed_at]
  simp only [total_row]

end Cert.RefOut

end
-- ==== Proof.Claims3.lean ====
/- The claims about the output projection. -/
module

public import proofs.«01_k».proof.Defs
public import proofs.«01_k».proof.Proof.OutProj
public import proofs.«01_k».proof.Proof.RefOut
public import proofs.«01_k».proof.Proof.Gen.Kernel3
public import proofs.«01_k».proof.Proof.Gen.Kernel3Ideal.Frame
public import proofs.«01_k».proof.Proof.Gen.Kernel3Ideal.Value
public import Idealize.ShloMosaic.Adequacy
public import Idealize.ShloMosaic.Init
public import Idealize.ShloMosaic.Lib.Quiescent

@[expose] public section

noncomputable section

namespace Cert.Claims3

open Idealize.ShloMosaic Idealize.SL.Sem

/-- The kernel's body table is the idealised kernel's: the two have the same text. -/
theorem defs_eq : Cert.Kernel3.defs (F := Bits) = Cert.Kernel3Ideal.defs (F := Bits) :=
  congrArg (Pipeline.defs Cert.Kernel3Ideal.pcfgs) (congrArg Defs.onTc (funext fun l => funext fun a => by
    match l, a with
    | 0, (t, s) => rfl
    | ⟨_ + 1, h⟩, _ => exact absurd h (Nat.not_lt.2 (Nat.le_add_left _ _))))

/-- The kernel runs, its arguments unchanged: by the idealised kernel's run, which is for any float values. -/
theorem frame_p : Cert.quiescent_Kernel3 := fun m ρ _ => by
  rw [defs_eq]
  exact Cert.Kernel3Ideal.Gen.frame (F := Bits) m ρ

/-- The idealised kernel runs, its arguments unchanged. -/
theorem frame_pi : Cert.quiescent_Kernel3Ideal := fun m ρ _ => Cert.Kernel3Ideal.Gen.frame m ρ

/-- The reference runs, its arguments unchanged. -/
theorem frame_ri : Cert.quiescent_Reference3Ideal := fun m ρ _ =>
  (θ_run Cert.Reference3Ideal.defs _ _).mono
    (fun r h => ⟨fun c => (h c).2.2, Idealize.ShloMosaic.sem_eq_zero_of_no_sems (by decide) r.2⟩) (Cert.Reference3Ideal.Value.run m ρ)

/-- The idealised kernel rewrites nothing. -/
theorem preserves : Cert.preserves_Kernel3_Kernel3Ideal := trivial

/-- The idealised kernel and the reference end with equal results. -/
theorem algebraic : Cert.algebraic_Kernel3Ideal_Reference3Ideal := by
  intro m g m' g' _ hagree
  refine ⟨_, _, Cert.Kernel3Ideal.Value.run_blocks m g, θ_run_mono (Cert.RefOut.run_named m' g') fun r h c => ?_⟩
  obtain ⟨hx, hn, hargs⟩ := h c
  obtain ⟨e0, e1, e2, e3⟩ := hagree c
  refine ⟨?_, ?_, hargs⟩
  · refine Eq.trans ?_ (Cert.OutProj.final_x m c).symm
    rw [hx, Cert.RefOut.final_x, e0, e1, e2]
  · refine Eq.trans ?_ (Cert.OutProj.final_n m c).symm
    rw [hn, Cert.RefOut.final_n, e0, e1, e2, e3]

end Cert.Claims3

end
-- ==== Proof.lean ====
module

public import proofs.«01_k».proof.Defs
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Reference16Ideal
public import proofs.«01_k».proof.Proof.Gen.Kernel16Ideal.Value
public import proofs.«01_k».proof.Proof.Gen.Kernel4.Frame
public import proofs.«01_k».proof.Proof.Gen.Kernel4Ideal.Value
public import proofs.«01_k».proof.Proof.Gen.Reference4Ideal
public import proofs.«01_k».proof.Proof.Gen.Kernel1.Frame
public import proofs.«01_k».proof.Proof.Gen.Kernel1Ideal.Value
public import proofs.«01_k».proof.Proof.Gen.Reference1Ideal
public import proofs.«01_k».proof.Proof.Gen.Kernel2
public import proofs.«01_k».proof.Proof.Gen.Kernel3
public import proofs.«01_k».proof.Proof.Gen.Kernel2Ideal.Value
public import proofs.«01_k».proof.Proof.Gen.Reference2Ideal.Run
public import proofs.«01_k».proof.Proof.Gen.Kernel3Ideal.Value
public import proofs.«01_k».proof.Proof.Gen.Reference3Ideal.Run
public import proofs.«01_k».proof.Proof.Claims16
public import proofs.«01_k».proof.Proof.Claims4
public import proofs.«01_k».proof.Proof.Claims1
public import proofs.«01_k».proof.Proof.Claims2
public import proofs.«01_k».proof.Proof.Claims3
public import Idealize.ShloMosaic.Adequacy
public import Idealize.ShloMosaic.Init

@[expose] public section

noncomputable section

namespace Cert.Proof

/-- Everything claimed. -/
theorem claim : Cert.Claim :=
  ⟨Cert.Kernel16.Gen.facts, Cert.Kernel16Ideal.Gen.facts, Cert.Reference16Ideal.Gen.facts,
    Cert.Kernel4.Gen.facts, Cert.Kernel4Ideal.Gen.facts, Cert.Reference4Ideal.Gen.facts,
    Cert.Kernel1.Gen.facts, Cert.Kernel1Ideal.Gen.facts, Cert.Reference1Ideal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Claims16.frame_p, Cert.Claims16.frame_pi, Cert.Claims16.frame_ri,
    Cert.Claims4.frame_p, Cert.Claims4.frame_pi, Cert.Claims4.frame_ri,
    Cert.Claims1.frame_p, Cert.Claims1.frame_pi, Cert.Claims1.frame_ri,
    Cert.Claims2.frame_p, Cert.Claims2.frame_pi, Cert.Claims2.frame_ri,
    Cert.Claims3.frame_p, Cert.Claims3.frame_pi, Cert.Claims3.frame_ri,
    Cert.Claims16.preserves, Cert.Claims16.algebraic,
    Cert.Claims4.preserves, Cert.Claims4.algebraic,
    Cert.Claims1.preserves, Cert.Claims1.algebraic,
    Cert.Claims2.preserves, Cert.Claims2.algebraic,
    Cert.Claims3.preserves, Cert.Claims3.algebraic⟩

end Cert.Proof

end
